-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v532) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576x1x4x4 : Shape := ⟨4, ![1048576, 1, 4, 4]⟩
abbrev S3x12x3 : Shape := ⟨3, ![3, 12, 3]⟩
abbrev S32x12 : Shape := ⟨2, ![32, 12]⟩
abbrev S32 : Shape := ⟨1, ![32]⟩
abbrev S16x32 : Shape := ⟨2, ![16, 32]⟩
abbrev S16 : Shape := ⟨1, ![16]⟩
abbrev S3x3x12 : Shape := ⟨3, ![3, 3, 12]⟩
abbrev S12x32 : Shape := ⟨2, ![12, 32]⟩
abbrev S1x32 : Shape := ⟨2, ![1, 32]⟩
abbrev S1x16 : Shape := ⟨2, ![1, 16]⟩
abbrev S16384x8x128 : Shape := ⟨3, ![16384, 8, 128]⟩
abbrev S2048x8x128 : Shape := ⟨3, ![2048, 8, 128]⟩
abbrev S32x128 : Shape := ⟨2, ![32, 128]⟩
abbrev S1x1x1 : Shape := ⟨3, ![1, 1, 1]⟩
abbrev S16x128 : Shape := ⟨2, ![16, 128]⟩
abbrev S8x128 : Shape := ⟨2, ![8, 128]⟩
abbrev S24x128 : Shape := ⟨2, ![24, 128]⟩
abbrev S4x128 : Shape := ⟨2, ![4, 128]⟩
abbrev S28x128 : Shape := ⟨2, ![28, 128]⟩
abbrev S2x128 : Shape := ⟨2, ![2, 128]⟩
abbrev S30x128 : Shape := ⟨2, ![30, 128]⟩
abbrev S1x128 : Shape := ⟨2, ![1, 128]⟩
abbrev S31x128 : Shape := ⟨2, ![31, 128]⟩
abbrev S32x64 : Shape := ⟨2, ![32, 64]⟩
abbrev S32x32 : Shape := ⟨2, ![32, 32]⟩
abbrev S32x96 : Shape := ⟨2, ![32, 96]⟩
abbrev S32x16 : Shape := ⟨2, ![32, 16]⟩
abbrev S32x112 : Shape := ⟨2, ![32, 112]⟩
abbrev S32x8 : Shape := ⟨2, ![32, 8]⟩
abbrev S32x120 : Shape := ⟨2, ![32, 120]⟩
abbrev S32x4 : Shape := ⟨2, ![32, 4]⟩
abbrev S32x124 : Shape := ⟨2, ![32, 124]⟩
abbrev S32x2 : Shape := ⟨2, ![32, 2]⟩
abbrev S32x126 : Shape := ⟨2, ![32, 126]⟩
abbrev S32x1 : Shape := ⟨2, ![32, 1]⟩
abbrev S32x127 : Shape := ⟨2, ![32, 127]⟩
abbrev S128x128 : Shape := ⟨2, ![128, 128]⟩
abbrev S1x32x128 : Shape := ⟨3, ![1, 32, 128]⟩
abbrev S1 : Shape := ⟨1, ![1]⟩
abbrev S1x8x128 : Shape := ⟨3, ![1, 8, 128]⟩
abbrev S4x8192x4x128 : Shape := ⟨4, ![4, 8192, 4, 128]⟩
abbrev S8192x128x4x4 : Shape := ⟨4, ![8192, 128, 4, 4]⟩

abbrev nBuf : Space → Nat
  | .hbm => 14
  | .vmem => 7
  | .smem => 1
  | _ => 0

abbrev bufTy : (tb : Table) → Fin (tcTables nBuf tb) → BufTy
  | .hbm, ⟨0, _⟩ => ⟨S1048576x1x4x4, .f32⟩
  | .hbm, ⟨1, _⟩ => ⟨S3x12x3, .f32⟩
  | .hbm, ⟨2, _⟩ => ⟨S32x12, .f32⟩
  | .hbm, ⟨3, _⟩ => ⟨S32, .f32⟩
  | .hbm, ⟨4, _⟩ => ⟨S16x32, .f32⟩
  | .hbm, ⟨5, _⟩ => ⟨S16, .f32⟩
  | .hbm, ⟨6, _⟩ => ⟨S3x3x12, .f32⟩
  | .hbm, ⟨7, _⟩ => ⟨S12x32, .f32⟩
  | .hbm, ⟨8, _⟩ => ⟨S1x32, .f32⟩
  | .hbm, ⟨9, _⟩ => ⟨S1x16, .f32⟩
  | .hbm, ⟨10, _⟩ => ⟨S16384x8x128, .f32⟩
  | .hbm, ⟨11, _⟩ => ⟨S4x8192x4x128, .f32⟩
  | .hbm, ⟨12, _⟩ => ⟨S8192x128x4x4, .f32⟩
  | .hbm, ⟨13, _⟩ => ⟨S1048576x1x4x4, .f32⟩
  | .local _ .vmem, ⟨0, _⟩ => ⟨S12x32, .f32⟩
  | .local _ .vmem, ⟨1, _⟩ => ⟨S1x32, .f32⟩
  | .local _ .vmem, ⟨2, _⟩ => ⟨S16x32, .f32⟩
  | .local _ .vmem, ⟨3, _⟩ => ⟨S1x16, .f32⟩
  | .local _ .vmem, ⟨4, _⟩ => ⟨S2048x8x128, .f32⟩
  | .local _ .vmem, ⟨5, _⟩ => ⟨S2048x8x128, .f32⟩
  | .local _ .vmem, ⟨6, _⟩ => ⟨S32x128, .f32⟩
  | .local _ .smem, ⟨0, _⟩ => ⟨S3x3x12, .f32⟩
  | _, _ => ⟨S1048576x1x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨3, ![2, 4, 1], ![false, false, false]⟩

def k0_off1 (i : grid0.Coords) : Fin 2 → Nat :=
  let arg1 : BitVec 32 := BitVec.ofNat 32 (i 1).val
  let c8_i32 : BitVec 32 := 8#32
  let v5 : BitVec 32 := Scalar.muli arg1 c8_i32
  let v6 : Index := Scalar.indexCast v5
  let c0 : Index := 0#32
  ![v6.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.muli arg0 c1_i32
  let v2 : BitVec 32 := Scalar.addi v0 v1
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

abbrev stage0_0 : Fin 1 → Memref sig .tc .smem S3x3x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S1048576x1x4x4 : Shape := ⟨4, ![1048576, 1, 4, 4]⟩
abbrev S3x12x3 : Shape := ⟨3, ![3, 12, 3]⟩
abbrev S32x12 : Shape := ⟨2, ![32, 12]⟩
abbrev S32 : Shape := ⟨1, ![32]⟩
abbrev S16x32 : Shape := ⟨2, ![16, 32]⟩
abbrev S16 : Shape := ⟨1, ![16]⟩
abbrev S_ : Shape := ⟨0, ![]⟩
abbrev S3x12 : Shape := ⟨2, ![3, 12]⟩
abbrev S3x12x1 : Shape := ⟨3, ![3, 12, 1]⟩
abbrev S3x12x2 : Shape := ⟨3, ![3, 12, 2]⟩
abbrev S3x12x1x2 : Shape := ⟨4, ![3, 12, 1, 2]⟩
abbrev S3x12x2x2 : Shape := ⟨4, ![3, 12, 2, 2]⟩
abbrev S3x12x2x1x2 : Shape := ⟨5, ![3, 12, 2, 1, 2]⟩
abbrev S3x12x2x2x2 : Shape := ⟨5, ![3, 12, 2, 2, 2]⟩
abbrev S3x12x1x2x2x2 : Shape := ⟨6, ![3, 12, 1, 2, 2, 2]⟩
abbrev S3x12x2x2x2x2 : Shape := ⟨6, ![3, 12, 2, 2, 2, 2]⟩
abbrev S8192 : Shape := ⟨1, ![8192]⟩
abbrev S2x2x2x2x2x2x2x2x2x2x2x2x2 : Shape := ⟨13, ![2, 2, 2, 2, 2, 2, 2, 2, 2, 2, 2, 2, 2]⟩
abbrev S1x1x2x2x2x2 : Shape := ⟨6, ![1, 1, 2, 2, 2, 2]⟩
abbrev S2x2x2x2 : Shape := ⟨4, ![2, 2, 2, 2]⟩
abbrev S1x2x2x2x2x2x2x2x2x2x2x2x2 : Shape := ⟨13, ![1, 2, 2, 2, 2, 2, 2, 2, 2, 2, 2, 2, 2]⟩
abbrev S2x2x2x2x2x2x2x2x2x2x2x2 : Shape := ⟨12, ![2, 2, 2, 2, 2, 2, 2, 2, 2, 2, 2, 2]⟩
abbrev S2 : Shape := ⟨1, ![2]⟩
abbrev S1 : Shape := ⟨1, ![1]⟩
abbrev S12 : Shape := ⟨1, ![12]⟩
abbrev S12x32 : Shape := ⟨2, ![12, 32]⟩
abbrev S32x16 : Shape := ⟨2, ![32, 16]⟩
abbrev S1x1x4x4 : Shape := ⟨4, ![1, 1, 4, 4]⟩

abbrev nBuf : Space → Nat
  | .hbm => 599
  | .vmem => 0
  | .smem => 0
  | _ => 0

abbrev hbmTy0_0 (i : Nat) : BufTy := match i % 128 with
  | 0 => ⟨S1048576x1x4x4, .f32⟩
  | 1 => ⟨S3x12x3, .f32⟩
  | 2 => ⟨S32x12, .f32⟩
  | 3 => ⟨S32, .f32⟩
  | 4 => ⟨S16x32, .f32⟩
  | 5 => ⟨S16, .f32⟩
  | 6 => ⟨S_, .f32⟩
  | 7 => ⟨S3x12x3, .f32⟩
  | 8 => ⟨S3x12x3, .f32⟩
  | 9 => ⟨S3x12x3, .f32⟩
  | 10 => ⟨S_, .f32⟩
  | 11 => ⟨S3x12x3, .f32⟩
  | 12 => ⟨S3x12x3, .f32⟩
  | 13 => ⟨S3x12x3, .f32⟩
  | 14 => ⟨S_, .f32⟩
  | 15 => ⟨S3x12, .f32⟩
  | 16 => ⟨S3x12x1, .f32⟩
  | 17 => ⟨S3x12, .f32⟩
  | 18 => ⟨S3x12x1, .f32⟩
  | 19 => ⟨S3x12, .f32⟩
  | 20 => ⟨S3x12x1, .f32⟩
  | 21 => ⟨S3x12, .f32⟩
  | 22 => ⟨S3x12x1, .f32⟩
  | 23 => ⟨S3x12, .f32⟩
  | 24 => ⟨S3x12x1, .f32⟩
  | 25 => ⟨S3x12, .f32⟩
  | 26 => ⟨S3x12x1, .f32⟩
  | 27 => ⟨S3x12, .f32⟩
  | 28 => ⟨S3x12x1, .f32⟩
  | 29 => ⟨S3x12x1, .f32⟩
  | 30 => ⟨S3x12x2, .f32⟩
  | 31 => ⟨S3x12x1, .f32⟩
  | 32 => ⟨S3x12x1, .f32⟩
  | 33 => ⟨S3x12x2, .f32⟩
  | 34 => ⟨S3x12x1x2, .f32⟩
  | 35 => ⟨S3x12x1x2, .f32⟩
  | 36 => ⟨S3x12x2x2, .f32⟩
  | 37 => ⟨S3x12, .f32⟩
  | 38 => ⟨S3x12, .f32⟩
  | 39 => ⟨S3x12x1, .f32⟩
  | 40 => ⟨S3x12x1, .f32⟩
  | 41 => ⟨S3x12x2, .f32⟩
  | 42 => ⟨S3x12x1, .f32⟩
  | 43 => ⟨S3x12x1, .f32⟩
  | 44 => ⟨S3x12x2, .f32⟩
  | 45 => ⟨S3x12x1x2, .f32⟩
  | 46 => ⟨S3x12x1x2, .f32⟩
  | 47 => ⟨S3x12x2x2, .f32⟩
  | 48 => ⟨S3x12, .f32⟩
  | 49 => ⟨S3x12x1, .f32⟩
  | 50 => ⟨S3x12x1, .f32⟩
  | 51 => ⟨S3x12x2, .f32⟩
  | 52 => ⟨S3x12x1, .f32⟩
  | 53 => ⟨S3x12x1, .f32⟩
  | 54 => ⟨S3x12x2, .f32⟩
  | 55 => ⟨S3x12x1x2, .f32⟩
  | 56 => ⟨S3x12x1x2, .f32⟩
  | 57 => ⟨S3x12x2x2, .f32⟩
  | 58 => ⟨S3x12x1, .f32⟩
  | 59 => ⟨S3x12x1, .f32⟩
  | 60 => ⟨S3x12x2, .f32⟩
  | 61 => ⟨S3x12x1, .f32⟩
  | 62 => ⟨S3x12x1, .f32⟩
  | 63 => ⟨S3x12x2, .f32⟩
  | 64 => ⟨S3x12x1x2, .f32⟩
  | 65 => ⟨S3x12x1x2, .f32⟩
  | 66 => ⟨S3x12x2x2, .f32⟩
  | 67 => ⟨S3x12x1, .f32⟩
  | 68 => ⟨S3x12x1, .f32⟩
  | 69 => ⟨S3x12x2, .f32⟩
  | 70 => ⟨S3x12x1, .f32⟩
  | 71 => ⟨S3x12x1, .f32⟩
  | 72 => ⟨S3x12x2, .f32⟩
  | 73 => ⟨S3x12x1x2, .f32⟩
  | 74 => ⟨S3x12x1x2, .f32⟩
  | 75 => ⟨S3x12x2x2, .f32⟩
  | 76 => ⟨S3x12, .f32⟩
  | 77 => ⟨S3x12x1, .f32⟩
  | 78 => ⟨S3x12x1, .f32⟩
  | 79 => ⟨S3x12x2, .f32⟩
  | 80 => ⟨S3x12x1, .f32⟩
  | 81 => ⟨S3x12x1, .f32⟩
  | 82 => ⟨S3x12x2, .f32⟩
  | 83 => ⟨S3x12x1x2, .f32⟩
  | 84 => ⟨S3x12x1x2, .f32⟩
  | 85 => ⟨S3x12x2x2, .f32⟩
  | 86 => ⟨S3x12x2x2, .f32⟩
  | 87 => ⟨S3x12x2x2, .f32⟩
  | 88 => ⟨S3x12x2x2, .f32⟩
  | 89 => ⟨S3x12x2x2, .f32⟩
  | 90 => ⟨S3x12x2x2, .f32⟩
  | 91 => ⟨S3x12x2x2, .f32⟩
  | 92 => ⟨S3x12x2x2, .f32⟩
  | 93 => ⟨S3x12x2x2, .f32⟩
  | 94 => ⟨S3x12x2x2, .f32⟩
  | 95 => ⟨S3x12x2x2, .f32⟩
  | 96 => ⟨S3x12x2x2, .f32⟩
  | 97 => ⟨S3x12x2x2, .f32⟩
  | 98 => ⟨S3x12x2x2, .f32⟩
  | 99 => ⟨S3x12x2x1x2, .f32⟩
  | 100 => ⟨S3x12x2x1x2, .f32⟩
  | 101 => ⟨S3x12x2x2x2, .f32⟩
  | 102 => ⟨S3x12x2x1x2, .f32⟩
  | 103 => ⟨S3x12x2x1x2, .f32⟩
  | 104 => ⟨S3x12x2x2x2, .f32⟩
  | 105 => ⟨S3x12x1x2x2x2, .f32⟩
  | 106 => ⟨S3x12x1x2x2x2, .f32⟩
  | 107 => ⟨S3x12x2x2x2x2, .f32⟩
  | 108 => ⟨S8192, .i32⟩
  | 109 => ⟨S_, .i32⟩
  | 110 => ⟨S8192, .i32⟩
  | 111 => ⟨S8192, .i1⟩
  | 112 => ⟨S_, .f32⟩
  | 113 => ⟨S_, .f32⟩
  | 114 => ⟨S8192, .f32⟩
  | 115 => ⟨S8192, .f32⟩
  | 116 => ⟨S8192, .f32⟩
  | 117 => ⟨S8192, .f32⟩
  | 118 => ⟨S2x2x2x2x2x2x2x2x2x2x2x2x2, .f32⟩
  | 119 => ⟨S1x1x2x2x2x2, .f32⟩
  | 120 => ⟨S2x2x2x2, .f32⟩
  | 121 => ⟨S2x2x2x2x2x2x2x2x2x2x2x2x2, .f32⟩
  | 122 => ⟨S1x1x2x2x2x2, .f32⟩
  | 123 => ⟨S2x2x2x2, .f32⟩
  | 124 => ⟨S2x2x2x2x2x2x2x2x2x2x2x2x2, .f32⟩
  | 125 => ⟨S2x2x2x2x2x2x2x2x2x2x2x2x2, .f32⟩
  | 126 => ⟨S1x1x2x2x2x2, .f32⟩
  | 127 => ⟨S2x2x2x2, .f32⟩
  | _ => ⟨S1048576x1x4x4, .f32⟩

abbrev hbmTy0_1 (i : Nat) : BufTy := match i % 128 with
  | 0 => ⟨S2x2x2x2x2x2x2x2x2x2x2x2x2, .f32⟩
  | 1 => ⟨S2x2x2x2x2x2x2x2x2x2x2x2x2, .f32⟩
  | 2 => ⟨S1x1x2x2x2x2, .f32⟩
  | 3 => ⟨S2x2x2x2, .f32⟩
  | 4 => ⟨S2x2x2x2x2x2x2x2x2x2x2x2x2, .f32⟩
  | 5 => ⟨S2x2x2x2x2x2x2x2x2x2x2x2x2, .f32⟩
  | 6 => ⟨S1x1x2x2x2x2, .f32⟩
  | 7 => ⟨S2x2x2x2, .f32⟩
  | 8 => ⟨S2x2x2x2x2x2x2x2x2x2x2x2x2, .f32⟩
  | 9 => ⟨S2x2x2x2x2x2x2x2x2x2x2x2x2, .f32⟩
  | 10 => ⟨S1x1x2x2x2x2, .f32⟩
  | 11 => ⟨S2x2x2x2, .f32⟩
  | 12 => ⟨S2x2x2x2x2x2x2x2x2x2x2x2x2, .f32⟩
  | 13 => ⟨S2x2x2x2x2x2x2x2x2x2x2x2x2, .f32⟩
  | 14 => ⟨S1x1x2x2x2x2, .f32⟩
  | 15 => ⟨S2x2x2x2, .f32⟩
  | 16 => ⟨S2x2x2x2x2x2x2x2x2x2x2x2x2, .f32⟩
  | 17 => ⟨S2x2x2x2x2x2x2x2x2x2x2x2x2, .f32⟩
  | 18 => ⟨S1x1x2x2x2x2, .f32⟩
  | 19 => ⟨S2x2x2x2, .f32⟩
  | 20 => ⟨S2x2x2x2x2x2x2x2x2x2x2x2x2, .f32⟩
  | 21 => ⟨S2x2x2x2x2x2x2x2x2x2x2x2x2, .f32⟩
  | 22 => ⟨S1x1x2x2x2x2, .f32⟩
  | 23 => ⟨S2x2x2x2, .f32⟩
  | 24 => ⟨S2x2x2x2x2x2x2x2x2x2x2x2x2, .f32⟩
  | 25 => ⟨S2x2x2x2x2x2x2x2x2x2x2x2x2, .f32⟩
  | 26 => ⟨S1x1x2x2x2x2, .f32⟩
  | 27 => ⟨S2x2x2x2, .f32⟩
  | 28 => ⟨S2x2x2x2x2x2x2x2x2x2x2x2x2, .f32⟩
  | 29 => ⟨S2x2x2x2x2x2x2x2x2x2x2x2x2, .f32⟩
  | 30 => ⟨S1x1x2x2x2x2, .f32⟩
  | 31 => ⟨S2x2x2x2, .f32⟩
  | 32 => ⟨S2x2x2x2x2x2x2x2x2x2x2x2x2, .f32⟩
  | 33 => ⟨S2x2x2x2x2x2x2x2x2x2x2x2x2, .f32⟩
  | 34 => ⟨S1x1x2x2x2x2, .f32⟩
  | 35 => ⟨S2x2x2x2, .f32⟩
  | 36 => ⟨S2x2x2x2x2x2x2x2x2x2x2x2x2, .f32⟩
  | 37 => ⟨S2x2x2x2x2x2x2x2x2x2x2x2x2, .f32⟩
  | 38 => ⟨S2x2x2x2x2x2x2x2x2x2x2x2x2, .i32⟩
  | 39 => ⟨S_, .i32⟩
  | 40 => ⟨S2x2x2x2x2x2x2x2x2x2x2x2x2, .i32⟩
  | 41 => ⟨S2x2x2x2x2x2x2x2x2x2x2x2x2, .i1⟩
  | 42 => ⟨S2x2x2x2x2x2x2x2x2x2x2x2x2, .f32⟩
  | 43 => ⟨S2x2x2x2x2x2x2x2x2x2x2x2x2, .f32⟩
  | 44 => ⟨S2x2x2x2x2x2x2x2x2x2x2x2x2, .i32⟩
  | 45 => ⟨S_, .i32⟩
  | 46 => ⟨S2x2x2x2x2x2x2x2x2x2x2x2x2, .i32⟩
  | 47 => ⟨S2x2x2x2x2x2x2x2x2x2x2x2x2, .i1⟩
  | 48 => ⟨S2x2x2x2x2x2x2x2x2x2x2x2x2, .f32⟩
  | 49 => ⟨S2x2x2x2x2x2x2x2x2x2x2x2x2, .f32⟩
  | 50 => ⟨S2x2x2x2x2x2x2x2x2x2x2x2x2, .i32⟩
  | 51 => ⟨S_, .i32⟩
  | 52 => ⟨S2x2x2x2x2x2x2x2x2x2x2x2x2, .i32⟩
  | 53 => ⟨S2x2x2x2x2x2x2x2x2x2x2x2x2, .i1⟩
  | 54 => ⟨S2x2x2x2x2x2x2x2x2x2x2x2x2, .f32⟩
  | 55 => ⟨S2x2x2x2x2x2x2x2x2x2x2x2x2, .f32⟩
  | 56 => ⟨S2x2x2x2x2x2x2x2x2x2x2x2x2, .i32⟩
  | 57 => ⟨S_, .i32⟩
  | 58 => ⟨S2x2x2x2x2x2x2x2x2x2x2x2x2, .i32⟩
  | 59 => ⟨S2x2x2x2x2x2x2x2x2x2x2x2x2, .i1⟩
  | 60 => ⟨S2x2x2x2x2x2x2x2x2x2x2x2x2, .f32⟩
  | 61 => ⟨S2x2x2x2x2x2x2x2x2x2x2x2x2, .f32⟩
  | 62 => ⟨S2x2x2x2x2x2x2x2x2x2x2x2x2, .i32⟩
  | 63 => ⟨S_, .i32⟩
  | 64 => ⟨S2x2x2x2x2x2x2x2x2x2x2x2x2, .i32⟩
  | 65 => ⟨S2x2x2x2x2x2x2x2x2x2x2x2x2, .i1⟩
  | 66 => ⟨S2x2x2x2x2x2x2x2x2x2x2x2x2, .f32⟩
  | 67 => ⟨S2x2x2x2x2x2x2x2x2x2x2x2x2, .f32⟩
  | 68 => ⟨S2x2x2x2x2x2x2x2x2x2x2x2x2, .i32⟩
  | 69 => ⟨S_, .i32⟩
  | 70 => ⟨S2x2x2x2x2x2x2x2x2x2x2x2x2, .i32⟩
  | 71 => ⟨S2x2x2x2x2x2x2x2x2x2x2x2x2, .i1⟩
  | 72 => ⟨S2x2x2x2x2x2x2x2x2x2x2x2x2, .f32⟩
  | 73 => ⟨S2x2x2x2x2x2x2x2x2x2x2x2x2, .f32⟩
  | 74 => ⟨S2x2x2x2x2x2x2x2x2x2x2x2x2, .i32⟩
  | 75 => ⟨S_, .i32⟩
  | 76 => ⟨S2x2x2x2x2x2x2x2x2x2x2x2x2, .i32⟩
  | 77 => ⟨S2x2x2x2x2x2x2x2x2x2x2x2x2, .i1⟩
  | 78 => ⟨S2x2x2x2x2x2x2x2x2x2x2x2x2, .f32⟩
  | 79 => ⟨S2x2x2x2x2x2x2x2x2x2x2x2x2, .f32⟩
  | 80 => ⟨S2x2x2x2x2x2x2x2x2x2x2x2x2, .i32⟩
  | 81 => ⟨S_, .i32⟩
  | 82 => ⟨S2x2x2x2x2x2x2x2x2x2x2x2x2, .i32⟩
  | 83 => ⟨S2x2x2x2x2x2x2x2x2x2x2x2x2, .i1⟩
  | 84 => ⟨S2x2x2x2x2x2x2x2x2x2x2x2x2, .f32⟩
  | 85 => ⟨S2x2x2x2x2x2x2x2x2x2x2x2x2, .f32⟩
  | 86 => ⟨S2x2x2x2x2x2x2x2x2x2x2x2x2, .i32⟩
  | 87 => ⟨S_, .i32⟩
  | 88 => ⟨S2x2x2x2x2x2x2x2x2x2x2x2x2, .i32⟩
  | 89 => ⟨S2x2x2x2x2x2x2x2x2x2x2x2x2, .i1⟩
  | 90 => ⟨S2x2x2x2x2x2x2x2x2x2x2x2x2, .f32⟩
  | 91 => ⟨S2x2x2x2x2x2x2x2x2x2x2x2x2, .f32⟩
  | 92 => ⟨S2x2x2x2x2x2x2x2x2x2x2x2x2, .i32⟩
  | 93 => ⟨S_, .i32⟩
  | 94 => ⟨S2x2x2x2x2x2x2x2x2x2x2x2x2, .i32⟩
  | 95 => ⟨S2x2x2x2x2x2x2x2x2x2x2x2x2, .i1⟩
  | 96 => ⟨S2x2x2x2x2x2x2x2x2x2x2x2x2, .f32⟩
  | 97 => ⟨S2x2x2x2x2x2x2x2x2x2x2x2x2, .f32⟩
  | 98 => ⟨S2x2x2x2x2x2x2x2x2x2x2x2x2, .i32⟩
  | 99 => ⟨S_, .i32⟩
  | 100 => ⟨S2x2x2x2x2x2x2x2x2x2x2x2x2, .i32⟩
  | 101 => ⟨S2x2x2x2x2x2x2x2x2x2x2x2x2, .i1⟩
  | 102 => ⟨S2x2x2x2x2x2x2x2x2x2x2x2x2, .f32⟩
  | 103 => ⟨S2x2x2x2x2x2x2x2x2x2x2x2x2, .f32⟩
  | 104 => ⟨S2x2x2x2x2x2x2x2x2x2x2x2x2, .i32⟩
  | 105 => ⟨S_, .i32⟩
  | 106 => ⟨S2x2x2x2x2x2x2x2x2x2x2x2x2, .i32⟩
  | 107 => ⟨S2x2x2x2x2x2x2x2x2x2x2x2x2, .i1⟩
  | 108 => ⟨S2x2x2x2x2x2x2x2x2x2x2x2x2, .f32⟩
  | 109 => ⟨S2x2x2x2x2x2x2x2x2x2x2x2x2, .f32⟩
  | 110 => ⟨S1x1x2x2x2x2, .f32⟩
  | 111 => ⟨S2x2x2x2, .f32⟩
  | 112 => ⟨S2x2x2x2x2x2x2x2x2x2x2x2x2, .f32⟩
  | 113 => ⟨S1x1x2x2x2x2, .f32⟩
  | 114 => ⟨S2x2x2x2, .f32⟩
  | 115 => ⟨S2x2x2x2x2x2x2x2x2x2x2x2x2, .f32⟩
  | 116 => ⟨S2x2x2x2x2x2x2x2x2x2x2x2x2, .f32⟩
  | 117 => ⟨S1x1x2x2x2x2, .f32⟩
  | 118 => ⟨S2x2x2x2, .f32⟩
  | 119 => ⟨S2x2x2x2x2x2x2x2x2x2x2x2x2, .f32⟩
  | 120 => ⟨S2x2x2x2x2x2x2x2x2x2x2x2x2, .f32⟩
  | 121 => ⟨S1x1x2x2x2x2, .f32⟩
  | 122 => ⟨S2x2x2x2, .f32⟩
  | 123 => ⟨S2x2x2x2x2x2x2x2x2x2x2x2x2, .f32⟩
  | 124 => ⟨S2x2x2x2x2x2x2x2x2x2x2x2x2, .f32⟩
  | 125 => ⟨S1x1x2x2x2x2, .f32⟩
  | 126 => ⟨S2x2x2x2, .f32⟩
  | 127 => ⟨S2x2x2x2x2x2x2x2x2x2x2x2x2, .f32⟩
  | _ => ⟨S1048576x1x4x4, .f32⟩

abbrev hbmTy0_2 (i : Nat) : BufTy := match i % 128 with
  | 0 => ⟨S2x2x2x2x2x2x2x2x2x2x2x2x2, .f32⟩
  | 1 => ⟨S1x1x2x2x2x2, .f32⟩
  | 2 => ⟨S2x2x2x2, .f32⟩
  | 3 => ⟨S2x2x2x2x2x2x2x2x2x2x2x2x2, .f32⟩
  | 4 => ⟨S2x2x2x2x2x2x2x2x2x2x2x2x2, .f32⟩
  | 5 => ⟨S1x1x2x2x2x2, .f32⟩
  | 6 => ⟨S2x2x2x2, .f32⟩
  | 7 => ⟨S2x2x2x2x2x2x2x2x2x2x2x2x2, .f32⟩
  | 8 => ⟨S2x2x2x2x2x2x2x2x2x2x2x2x2, .f32⟩
  | 9 => ⟨S1x1x2x2x2x2, .f32⟩
  | 10 => ⟨S2x2x2x2, .f32⟩
  | 11 => ⟨S2x2x2x2x2x2x2x2x2x2x2x2x2, .f32⟩
  | 12 => ⟨S2x2x2x2x2x2x2x2x2x2x2x2x2, .f32⟩
  | 13 => ⟨S1x1x2x2x2x2, .f32⟩
  | 14 => ⟨S2x2x2x2, .f32⟩
  | 15 => ⟨S2x2x2x2x2x2x2x2x2x2x2x2x2, .f32⟩
  | 16 => ⟨S2x2x2x2x2x2x2x2x2x2x2x2x2, .f32⟩
  | 17 => ⟨S1x1x2x2x2x2, .f32⟩
  | 18 => ⟨S2x2x2x2, .f32⟩
  | 19 => ⟨S2x2x2x2x2x2x2x2x2x2x2x2x2, .f32⟩
  | 20 => ⟨S2x2x2x2x2x2x2x2x2x2x2x2x2, .f32⟩
  | 21 => ⟨S1x1x2x2x2x2, .f32⟩
  | 22 => ⟨S2x2x2x2, .f32⟩
  | 23 => ⟨S2x2x2x2x2x2x2x2x2x2x2x2x2, .f32⟩
  | 24 => ⟨S2x2x2x2x2x2x2x2x2x2x2x2x2, .f32⟩
  | 25 => ⟨S1x1x2x2x2x2, .f32⟩
  | 26 => ⟨S2x2x2x2, .f32⟩
  | 27 => ⟨S2x2x2x2x2x2x2x2x2x2x2x2x2, .f32⟩
  | 28 => ⟨S2x2x2x2x2x2x2x2x2x2x2x2x2, .f32⟩
  | 29 => ⟨S2x2x2x2x2x2x2x2x2x2x2x2x2, .i32⟩
  | 30 => ⟨S_, .i32⟩
  | 31 => ⟨S2x2x2x2x2x2x2x2x2x2x2x2x2, .i32⟩
  | 32 => ⟨S2x2x2x2x2x2x2x2x2x2x2x2x2, .i1⟩
  | 33 => ⟨S2x2x2x2x2x2x2x2x2x2x2x2x2, .f32⟩
  | 34 => ⟨S2x2x2x2x2x2x2x2x2x2x2x2x2, .f32⟩
  | 35 => ⟨S2x2x2x2x2x2x2x2x2x2x2x2x2, .i32⟩
  | 36 => ⟨S_, .i32⟩
  | 37 => ⟨S2x2x2x2x2x2x2x2x2x2x2x2x2, .i32⟩
  | 38 => ⟨S2x2x2x2x2x2x2x2x2x2x2x2x2, .i1⟩
  | 39 => ⟨S2x2x2x2x2x2x2x2x2x2x2x2x2, .f32⟩
  | 40 => ⟨S2x2x2x2x2x2x2x2x2x2x2x2x2, .f32⟩
  | 41 => ⟨S2x2x2x2x2x2x2x2x2x2x2x2x2, .i32⟩
  | 42 => ⟨S_, .i32⟩
  | 43 => ⟨S2x2x2x2x2x2x2x2x2x2x2x2x2, .i32⟩
  | 44 => ⟨S2x2x2x2x2x2x2x2x2x2x2x2x2, .i1⟩
  | 45 => ⟨S2x2x2x2x2x2x2x2x2x2x2x2x2, .f32⟩
  | 46 => ⟨S2x2x2x2x2x2x2x2x2x2x2x2x2, .f32⟩
  | 47 => ⟨S2x2x2x2x2x2x2x2x2x2x2x2x2, .i32⟩
  | 48 => ⟨S_, .i32⟩
  | 49 => ⟨S2x2x2x2x2x2x2x2x2x2x2x2x2, .i32⟩
  | 50 => ⟨S2x2x2x2x2x2x2x2x2x2x2x2x2, .i1⟩
  | 51 => ⟨S2x2x2x2x2x2x2x2x2x2x2x2x2, .f32⟩
  | 52 => ⟨S2x2x2x2x2x2x2x2x2x2x2x2x2, .f32⟩
  | 53 => ⟨S2x2x2x2x2x2x2x2x2x2x2x2x2, .i32⟩
  | 54 => ⟨S_, .i32⟩
  | 55 => ⟨S2x2x2x2x2x2x2x2x2x2x2x2x2, .i32⟩
  | 56 => ⟨S2x2x2x2x2x2x2x2x2x2x2x2x2, .i1⟩
  | 57 => ⟨S2x2x2x2x2x2x2x2x2x2x2x2x2, .f32⟩
  | 58 => ⟨S2x2x2x2x2x2x2x2x2x2x2x2x2, .f32⟩
  | 59 => ⟨S2x2x2x2x2x2x2x2x2x2x2x2x2, .i32⟩
  | 60 => ⟨S_, .i32⟩
  | 61 => ⟨S2x2x2x2x2x2x2x2x2x2x2x2x2, .i32⟩
  | 62 => ⟨S2x2x2x2x2x2x2x2x2x2x2x2x2, .i1⟩
  | 63 => ⟨S2x2x2x2x2x2x2x2x2x2x2x2x2, .f32⟩
  | 64 => ⟨S2x2x2x2x2x2x2x2x2x2x2x2x2, .f32⟩
  | 65 => ⟨S2x2x2x2x2x2x2x2x2x2x2x2x2, .i32⟩
  | 66 => ⟨S_, .i32⟩
  | 67 => ⟨S2x2x2x2x2x2x2x2x2x2x2x2x2, .i32⟩
  | 68 => ⟨S2x2x2x2x2x2x2x2x2x2x2x2x2, .i1⟩
  | 69 => ⟨S2x2x2x2x2x2x2x2x2x2x2x2x2, .f32⟩
  | 70 => ⟨S2x2x2x2x2x2x2x2x2x2x2x2x2, .f32⟩
  | 71 => ⟨S2x2x2x2x2x2x2x2x2x2x2x2x2, .i32⟩
  | 72 => ⟨S_, .i32⟩
  | 73 => ⟨S2x2x2x2x2x2x2x2x2x2x2x2x2, .i32⟩
  | 74 => ⟨S2x2x2x2x2x2x2x2x2x2x2x2x2, .i1⟩
  | 75 => ⟨S2x2x2x2x2x2x2x2x2x2x2x2x2, .f32⟩
  | 76 => ⟨S2x2x2x2x2x2x2x2x2x2x2x2x2, .f32⟩
  | 77 => ⟨S2x2x2x2x2x2x2x2x2x2x2x2x2, .i32⟩
  | 78 => ⟨S_, .i32⟩
  | 79 => ⟨S2x2x2x2x2x2x2x2x2x2x2x2x2, .i32⟩
  | 80 => ⟨S2x2x2x2x2x2x2x2x2x2x2x2x2, .i1⟩
  | 81 => ⟨S2x2x2x2x2x2x2x2x2x2x2x2x2, .f32⟩
  | 82 => ⟨S2x2x2x2x2x2x2x2x2x2x2x2x2, .f32⟩
  | 83 => ⟨S2x2x2x2x2x2x2x2x2x2x2x2x2, .i32⟩
  | 84 => ⟨S_, .i32⟩
  | 85 => ⟨S2x2x2x2x2x2x2x2x2x2x2x2x2, .i32⟩
  | 86 => ⟨S2x2x2x2x2x2x2x2x2x2x2x2x2, .i1⟩
  | 87 => ⟨S2x2x2x2x2x2x2x2x2x2x2x2x2, .f32⟩
  | 88 => ⟨S2x2x2x2x2x2x2x2x2x2x2x2x2, .f32⟩
  | 89 => ⟨S2x2x2x2x2x2x2x2x2x2x2x2x2, .i32⟩
  | 90 => ⟨S_, .i32⟩
  | 91 => ⟨S2x2x2x2x2x2x2x2x2x2x2x2x2, .i32⟩
  | 92 => ⟨S2x2x2x2x2x2x2x2x2x2x2x2x2, .i1⟩
  | 93 => ⟨S2x2x2x2x2x2x2x2x2x2x2x2x2, .f32⟩
  | 94 => ⟨S2x2x2x2x2x2x2x2x2x2x2x2x2, .f32⟩
  | 95 => ⟨S2x2x2x2x2x2x2x2x2x2x2x2x2, .i32⟩
  | 96 => ⟨S_, .i32⟩
  | 97 => ⟨S2x2x2x2x2x2x2x2x2x2x2x2x2, .i32⟩
  | 98 => ⟨S2x2x2x2x2x2x2x2x2x2x2x2x2, .i1⟩
  | 99 => ⟨S2x2x2x2x2x2x2x2x2x2x2x2x2, .f32⟩
  | 100 => ⟨S2x2x2x2x2x2x2x2x2x2x2x2x2, .f32⟩
  | 101 => ⟨S1x1x2x2x2x2, .f32⟩
  | 102 => ⟨S2x2x2x2, .f32⟩
  | 103 => ⟨S2x2x2x2x2x2x2x2x2x2x2x2x2, .f32⟩
  | 104 => ⟨S1x1x2x2x2x2, .f32⟩
  | 105 => ⟨S2x2x2x2, .f32⟩
  | 106 => ⟨S2x2x2x2x2x2x2x2x2x2x2x2x2, .f32⟩
  | 107 => ⟨S2x2x2x2x2x2x2x2x2x2x2x2x2, .f32⟩
  | 108 => ⟨S1x1x2x2x2x2, .f32⟩
  | 109 => ⟨S2x2x2x2, .f32⟩
  | 110 => ⟨S2x2x2x2x2x2x2x2x2x2x2x2x2, .f32⟩
  | 111 => ⟨S2x2x2x2x2x2x2x2x2x2x2x2x2, .f32⟩
  | 112 => ⟨S1x1x2x2x2x2, .f32⟩
  | 113 => ⟨S2x2x2x2, .f32⟩
  | 114 => ⟨S2x2x2x2x2x2x2x2x2x2x2x2x2, .f32⟩
  | 115 => ⟨S2x2x2x2x2x2x2x2x2x2x2x2x2, .f32⟩
  | 116 => ⟨S1x1x2x2x2x2, .f32⟩
  | 117 => ⟨S2x2x2x2, .f32⟩
  | 118 => ⟨S2x2x2x2x2x2x2x2x2x2x2x2x2, .f32⟩
  | 119 => ⟨S2x2x2x2x2x2x2x2x2x2x2x2x2, .f32⟩
  | 120 => ⟨S1x1x2x2x2x2, .f32⟩
  | 121 => ⟨S2x2x2x2, .f32⟩
  | 122 => ⟨S2x2x2x2x2x2x2x2x2x2x2x2x2, .f32⟩
  | 123 => ⟨S2x2x2x2x2x2x2x2x2x2x2x2x2, .f32⟩
  | 124 => ⟨S1x1x2x2x2x2, .f32⟩
  | 125 => ⟨S2x2x2x2, .f32⟩
  | 126 => ⟨S2x2x2x2x2x2x2x2x2x2x2x2x2, .f32⟩
  | 127 => ⟨S2x2x2x2x2x2x2x2x2x2x2x2x2, .f32⟩
  | _ => ⟨S1048576x1x4x4, .f32⟩

abbrev hbmTy0_3 (i : Nat) : BufTy := match i % 128 with
  | 0 => ⟨S1x1x2x2x2x2, .f32⟩
  | 1 => ⟨S2x2x2x2, .f32⟩
  | 2 => ⟨S2x2x2x2x2x2x2x2x2x2x2x2x2, .f32⟩
  | 3 => ⟨S2x2x2x2x2x2x2x2x2x2x2x2x2, .f32⟩
  | 4 => ⟨S1x1x2x2x2x2, .f32⟩
  | 5 => ⟨S2x2x2x2, .f32⟩
  | 6 => ⟨S2x2x2x2x2x2x2x2x2x2x2x2x2, .f32⟩
  | 7 => ⟨S2x2x2x2x2x2x2x2x2x2x2x2x2, .f32⟩
  | 8 => ⟨S1x1x2x2x2x2, .f32⟩
  | 9 => ⟨S2x2x2x2, .f32⟩
  | 10 => ⟨S2x2x2x2x2x2x2x2x2x2x2x2x2, .f32⟩
  | 11 => ⟨S2x2x2x2x2x2x2x2x2x2x2x2x2, .f32⟩
  | 12 => ⟨S1x1x2x2x2x2, .f32⟩
  | 13 => ⟨S2x2x2x2, .f32⟩
  | 14 => ⟨S2x2x2x2x2x2x2x2x2x2x2x2x2, .f32⟩
  | 15 => ⟨S2x2x2x2x2x2x2x2x2x2x2x2x2, .f32⟩
  | 16 => ⟨S1x1x2x2x2x2, .f32⟩
  | 17 => ⟨S2x2x2x2, .f32⟩
  | 18 => ⟨S2x2x2x2x2x2x2x2x2x2x2x2x2, .f32⟩
  | 19 => ⟨S2x2x2x2x2x2x2x2x2x2x2x2x2, .f32⟩
  | 20 => ⟨S2x2x2x2x2x2x2x2x2x2x2x2x2, .i32⟩
  | 21 => ⟨S_, .i32⟩
  | 22 => ⟨S2x2x2x2x2x2x2x2x2x2x2x2x2, .i32⟩
  | 23 => ⟨S2x2x2x2x2x2x2x2x2x2x2x2x2, .i1⟩
  | 24 => ⟨S2x2x2x2x2x2x2x2x2x2x2x2x2, .f32⟩
  | 25 => ⟨S2x2x2x2x2x2x2x2x2x2x2x2x2, .f32⟩
  | 26 => ⟨S2x2x2x2x2x2x2x2x2x2x2x2x2, .i32⟩
  | 27 => ⟨S_, .i32⟩
  | 28 => ⟨S2x2x2x2x2x2x2x2x2x2x2x2x2, .i32⟩
  | 29 => ⟨S2x2x2x2x2x2x2x2x2x2x2x2x2, .i1⟩
  | 30 => ⟨S2x2x2x2x2x2x2x2x2x2x2x2x2, .f32⟩
  | 31 => ⟨S2x2x2x2x2x2x2x2x2x2x2x2x2, .f32⟩
  | 32 => ⟨S2x2x2x2x2x2x2x2x2x2x2x2x2, .i32⟩
  | 33 => ⟨S_, .i32⟩
  | 34 => ⟨S2x2x2x2x2x2x2x2x2x2x2x2x2, .i32⟩
  | 35 => ⟨S2x2x2x2x2x2x2x2x2x2x2x2x2, .i1⟩
  | 36 => ⟨S2x2x2x2x2x2x2x2x2x2x2x2x2, .f32⟩
  | 37 => ⟨S2x2x2x2x2x2x2x2x2x2x2x2x2, .f32⟩
  | 38 => ⟨S2x2x2x2x2x2x2x2x2x2x2x2x2, .i32⟩
  | 39 => ⟨S_, .i32⟩
  | 40 => ⟨S2x2x2x2x2x2x2x2x2x2x2x2x2, .i32⟩
  | 41 => ⟨S2x2x2x2x2x2x2x2x2x2x2x2x2, .i1⟩
  | 42 => ⟨S2x2x2x2x2x2x2x2x2x2x2x2x2, .f32⟩
  | 43 => ⟨S2x2x2x2x2x2x2x2x2x2x2x2x2, .f32⟩
  | 44 => ⟨S2x2x2x2x2x2x2x2x2x2x2x2x2, .i32⟩
  | 45 => ⟨S_, .i32⟩
  | 46 => ⟨S2x2x2x2x2x2x2x2x2x2x2x2x2, .i32⟩
  | 47 => ⟨S2x2x2x2x2x2x2x2x2x2x2x2x2, .i1⟩
  | 48 => ⟨S2x2x2x2x2x2x2x2x2x2x2x2x2, .f32⟩
  | 49 => ⟨S2x2x2x2x2x2x2x2x2x2x2x2x2, .f32⟩
  | 50 => ⟨S2x2x2x2x2x2x2x2x2x2x2x2x2, .i32⟩
  | 51 => ⟨S_, .i32⟩
  | 52 => ⟨S2x2x2x2x2x2x2x2x2x2x2x2x2, .i32⟩
  | 53 => ⟨S2x2x2x2x2x2x2x2x2x2x2x2x2, .i1⟩
  | 54 => ⟨S2x2x2x2x2x2x2x2x2x2x2x2x2, .f32⟩
  | 55 => ⟨S2x2x2x2x2x2x2x2x2x2x2x2x2, .f32⟩
  | 56 => ⟨S2x2x2x2x2x2x2x2x2x2x2x2x2, .i32⟩
  | 57 => ⟨S_, .i32⟩
  | 58 => ⟨S2x2x2x2x2x2x2x2x2x2x2x2x2, .i32⟩
  | 59 => ⟨S2x2x2x2x2x2x2x2x2x2x2x2x2, .i1⟩
  | 60 => ⟨S2x2x2x2x2x2x2x2x2x2x2x2x2, .f32⟩
  | 61 => ⟨S2x2x2x2x2x2x2x2x2x2x2x2x2, .f32⟩
  | 62 => ⟨S2x2x2x2x2x2x2x2x2x2x2x2x2, .i32⟩
  | 63 => ⟨S_, .i32⟩
  | 64 => ⟨S2x2x2x2x2x2x2x2x2x2x2x2x2, .i32⟩
  | 65 => ⟨S2x2x2x2x2x2x2x2x2x2x2x2x2, .i1⟩
  | 66 => ⟨S2x2x2x2x2x2x2x2x2x2x2x2x2, .f32⟩
  | 67 => ⟨S2x2x2x2x2x2x2x2x2x2x2x2x2, .f32⟩
  | 68 => ⟨S2x2x2x2x2x2x2x2x2x2x2x2x2, .i32⟩
  | 69 => ⟨S_, .i32⟩
  | 70 => ⟨S2x2x2x2x2x2x2x2x2x2x2x2x2, .i32⟩
  | 71 => ⟨S2x2x2x2x2x2x2x2x2x2x2x2x2, .i1⟩
  | 72 => ⟨S2x2x2x2x2x2x2x2x2x2x2x2x2, .f32⟩
  | 73 => ⟨S2x2x2x2x2x2x2x2x2x2x2x2x2, .f32⟩
  | 74 => ⟨S2x2x2x2x2x2x2x2x2x2x2x2x2, .i32⟩
  | 75 => ⟨S_, .i32⟩
  | 76 => ⟨S2x2x2x2x2x2x2x2x2x2x2x2x2, .i32⟩
  | 77 => ⟨S2x2x2x2x2x2x2x2x2x2x2x2x2, .i1⟩
  | 78 => ⟨S2x2x2x2x2x2x2x2x2x2x2x2x2, .f32⟩
  | 79 => ⟨S2x2x2x2x2x2x2x2x2x2x2x2x2, .f32⟩
  | 80 => ⟨S2x2x2x2x2x2x2x2x2x2x2x2x2, .i32⟩
  | 81 => ⟨S_, .i32⟩
  | 82 => ⟨S2x2x2x2x2x2x2x2x2x2x2x2x2, .i32⟩
  | 83 => ⟨S2x2x2x2x2x2x2x2x2x2x2x2x2, .i1⟩
  | 84 => ⟨S2x2x2x2x2x2x2x2x2x2x2x2x2, .f32⟩
  | 85 => ⟨S2x2x2x2x2x2x2x2x2x2x2x2x2, .f32⟩
  | 86 => ⟨S2x2x2x2x2x2x2x2x2x2x2x2x2, .i32⟩
  | 87 => ⟨S_, .i32⟩
  | 88 => ⟨S2x2x2x2x2x2x2x2x2x2x2x2x2, .i32⟩
  | 89 => ⟨S2x2x2x2x2x2x2x2x2x2x2x2x2, .i1⟩
  | 90 => ⟨S2x2x2x2x2x2x2x2x2x2x2x2x2, .f32⟩
  | 91 => ⟨S2x2x2x2x2x2x2x2x2x2x2x2x2, .f32⟩
  | 92 => ⟨S1x2x2x2x2x2x2x2x2x2x2x2x2, .f32⟩
  | 93 => ⟨S2x2x2x2x2x2x2x2x2x2x2x2, .f32⟩
  | 94 => ⟨S2x2x2x2x2x2x2x2x2x2x2x2, .f32⟩
  | 95 => ⟨S1x2x2x2x2x2x2x2x2x2x2x2x2, .f32⟩
  | 96 => ⟨S2x2x2x2x2x2x2x2x2x2x2x2, .f32⟩
  | 97 => ⟨S2x2x2x2x2x2x2x2x2x2x2x2, .f32⟩
  | 98 => ⟨S2x2x2x2x2x2x2x2x2x2x2x2, .f32⟩
  | 99 => ⟨S_, .f32⟩
  | 100 => ⟨S2, .f32⟩
  | 101 => ⟨S1, .f32⟩
  | 102 => ⟨S_, .f32⟩
  | 103 => ⟨S1, .f32⟩
  | 104 => ⟨S_, .f32⟩
  | 105 => ⟨S_, .f32⟩
  | 106 => ⟨S_, .f32⟩
  | 107 => ⟨S2, .f32⟩
  | 108 => ⟨S1, .f32⟩
  | 109 => ⟨S_, .f32⟩
  | 110 => ⟨S1, .f32⟩
  | 111 => ⟨S_, .f32⟩
  | 112 => ⟨S_, .f32⟩
  | 113 => ⟨S_, .f32⟩
  | 114 => ⟨S2, .f32⟩
  | 115 => ⟨S1, .f32⟩
  | 116 => ⟨S_, .f32⟩
  | 117 => ⟨S1, .f32⟩
  | 118 => ⟨S_, .f32⟩
  | 119 => ⟨S_, .f32⟩
  | 120 => ⟨S_, .f32⟩
  | 121 => ⟨S2, .f32⟩
  | 122 => ⟨S1, .f32⟩
  | 123 => ⟨S_, .f32⟩
  | 124 => ⟨S1, .f32⟩
  | 125 => ⟨S_, .f32⟩
  | 126 => ⟨S_, .f32⟩
  | 127 => ⟨S_, .f32⟩
  | _ => ⟨S1048576x1x4x4, .f32⟩

abbrev hbmTy0_4 (i : Nat) : BufTy := match i % 128 with
  | 0 => ⟨S2, .f32⟩
  | 1 => ⟨S1, .f32⟩
  | 2 => ⟨S_, .f32⟩
  | 3 => ⟨S1, .f32⟩
  | 4 => ⟨S_, .f32⟩
  | 5 => ⟨S_, .f32⟩
  | 6 => ⟨S_, .f32⟩
  | 7 => ⟨S2, .f32⟩
  | 8 => ⟨S1, .f32⟩
  | 9 => ⟨S_, .f32⟩
  | 10 => ⟨S1, .f32⟩
  | 11 => ⟨S_, .f32⟩
  | 12 => ⟨S_, .f32⟩
  | 13 => ⟨S_, .f32⟩
  | 14 => ⟨S2, .f32⟩
  | 15 => ⟨S1, .f32⟩
  | 16 => ⟨S_, .f32⟩
  | 17 => ⟨S1, .f32⟩
  | 18 => ⟨S_, .f32⟩
  | 19 => ⟨S_, .f32⟩
  | 20 => ⟨S_, .f32⟩
  | 21 => ⟨S2, .f32⟩
  | 22 => ⟨S1, .f32⟩
  | 23 => ⟨S_, .f32⟩
  | 24 => ⟨S1, .f32⟩
  | 25 => ⟨S_, .f32⟩
  | 26 => ⟨S_, .f32⟩
  | 27 => ⟨S_, .f32⟩
  | 28 => ⟨S2, .f32⟩
  | 29 => ⟨S1, .f32⟩
  | 30 => ⟨S_, .f32⟩
  | 31 => ⟨S1, .f32⟩
  | 32 => ⟨S_, .f32⟩
  | 33 => ⟨S_, .f32⟩
  | 34 => ⟨S_, .f32⟩
  | 35 => ⟨S2, .f32⟩
  | 36 => ⟨S1, .f32⟩
  | 37 => ⟨S_, .f32⟩
  | 38 => ⟨S1, .f32⟩
  | 39 => ⟨S_, .f32⟩
  | 40 => ⟨S_, .f32⟩
  | 41 => ⟨S_, .f32⟩
  | 42 => ⟨S2, .f32⟩
  | 43 => ⟨S1, .f32⟩
  | 44 => ⟨S_, .f32⟩
  | 45 => ⟨S1, .f32⟩
  | 46 => ⟨S_, .f32⟩
  | 47 => ⟨S_, .f32⟩
  | 48 => ⟨S_, .f32⟩
  | 49 => ⟨S2, .f32⟩
  | 50 => ⟨S1, .f32⟩
  | 51 => ⟨S_, .f32⟩
  | 52 => ⟨S1, .f32⟩
  | 53 => ⟨S_, .f32⟩
  | 54 => ⟨S_, .f32⟩
  | 55 => ⟨S1, .f32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S1, .f32⟩
  | 63 => ⟨S1, .f32⟩
  | 64 => ⟨S1, .f32⟩
  | 65 => ⟨S1, .f32⟩
  | 66 => ⟨S1, .f32⟩
  | 67 => ⟨S12, .f32⟩
  | 68 => ⟨S12x32, .f32⟩
  | 69 => ⟨S32, .f32⟩
  | 70 => ⟨S32, .f32⟩
  | 71 => ⟨S_, .f32⟩
  | 72 => ⟨S32, .f32⟩
  | 73 => ⟨S32, .f32⟩
  | 74 => ⟨S32x16, .f32⟩
  | 75 => ⟨S16, .f32⟩
  | 76 => ⟨S16, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S1x1x4x4, .f32⟩
  | 86 => ⟨S1048576x1x4x4, .f32⟩
  | _ => ⟨S1048576x1x4x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1048576x1x4x4, .f32⟩

abbrev bufTy : (tb : Table) → Fin (tcTables nBuf tb) → BufTy
  | .hbm, ⟨i, _⟩ => hbmTy i
  | _, _ => ⟨S1048576x1x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_c : Ref sig .tc := ⟨.hbm, 109, rfl⟩
abbrev main_v100 : Ref sig .tc := ⟨.hbm, 110, rfl⟩
abbrev main_v101 : Ref sig .tc := ⟨.hbm, 111, rfl⟩
abbrev main_cst_2 : Ref sig .tc := ⟨.hbm, 112, rfl⟩
abbrev main_cst_3 : Ref sig .tc := ⟨.hbm, 113, rfl⟩
abbrev main_call0_v0 : Ref sig .tc := ⟨.hbm, 114, rfl⟩
abbrev main_call0_v1 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_c_4 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_c_5 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_c_6 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_c_7 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_c_8 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_c_9 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_c_10 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_c_11 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_c_12 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_c_13 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_c_14 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_c_15 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_c_16 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_c_17 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_c_18 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_c_19 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_c_20 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_c_21 : Ref sig .tc := ⟨.hbm, 316, rfl⟩
abbrev main_v285 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_c_22 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_c_23 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_c_24 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_v303 : Ref sig .tc := ⟨.hbm, 338, rfl⟩
abbrev main_v304 : Ref sig .tc := ⟨.hbm, 339, rfl⟩
abbrev main_c_25 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_c_26 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_c_27 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_v342 : Ref sig .tc := ⟨.hbm, 380, rfl⟩
abbrev main_v343 : Ref sig .tc := ⟨.hbm, 381, rfl⟩
abbrev main_v344 : Ref sig .tc := ⟨.hbm, 382, rfl⟩
abbrev main_v345 : Ref sig .tc := ⟨.hbm, 383, rfl⟩
abbrev main_v346 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_v354 : Ref sig .tc := ⟨.hbm, 392, rfl⟩
abbrev main_v355 : Ref sig .tc := ⟨.hbm, 393, rfl⟩
abbrev main_v356 : Ref sig .tc := ⟨.hbm, 394, rfl⟩
abbrev main_v357 : Ref sig .tc := ⟨.hbm, 395, rfl⟩
abbrev main_v358 : Ref sig .tc := ⟨.hbm, 396, rfl⟩
abbrev main_v359 : Ref sig .tc := ⟨.hbm, 397, rfl⟩
abbrev main_v360 : Ref sig .tc := ⟨.hbm, 398, rfl⟩
abbrev main_v361 : Ref sig .tc := ⟨.hbm, 399, rfl⟩
abbrev main_v362 : Ref sig .tc := ⟨.hbm, 400, rfl⟩
abbrev main_v363 : Ref sig .tc := ⟨.hbm, 401, rfl⟩
abbrev main_v364 : Ref sig .tc := ⟨.hbm, 402, rfl⟩
abbrev main_v365 : Ref sig .tc := ⟨.hbm, 403, rfl⟩
abbrev main_v366 : Ref sig .tc := ⟨.hbm, 404, rfl⟩
abbrev main_c_28 : Ref sig .tc := ⟨.hbm, 405, rfl⟩
abbrev main_v367 : Ref sig .tc := ⟨.hbm, 406, rfl⟩
abbrev main_v368 : Ref sig .tc := ⟨.hbm, 407, rfl⟩
abbrev main_v369 : Ref sig .tc := ⟨.hbm, 408, rfl⟩
abbrev main_v370 : Ref sig .tc := ⟨.hbm, 409, rfl⟩
abbrev main_v371 : Ref sig .tc := ⟨.hbm, 410, rfl⟩
abbrev main_c_29 : Ref sig .tc := ⟨.hbm, 411, rfl⟩
abbrev main_v372 : Ref sig .tc := ⟨.hbm, 412, rfl⟩
abbrev main_v373 : Ref sig .tc := ⟨.hbm, 413, rfl⟩
abbrev main_v374 : Ref sig .tc := ⟨.hbm, 414, rfl⟩
abbrev main_v375 : Ref sig .tc := ⟨.hbm, 415, rfl⟩
abbrev main_v376 : Ref sig .tc := ⟨.hbm, 416, rfl⟩
abbrev main_c_30 : Ref sig .tc := ⟨.hbm, 417, rfl⟩
abbrev main_v377 : Ref sig .tc := ⟨.hbm, 418, rfl⟩
abbrev main_v378 : Ref sig .tc := ⟨.hbm, 419, rfl⟩
abbrev main_v379 : Ref sig .tc := ⟨.hbm, 420, rfl⟩
abbrev main_v380 : Ref sig .tc := ⟨.hbm, 421, rfl⟩
abbrev main_v381 : Ref sig .tc := ⟨.hbm, 422, rfl⟩
abbrev main_c_31 : Ref sig .tc := ⟨.hbm, 423, rfl⟩
abbrev main_v382 : Ref sig .tc := ⟨.hbm, 424, rfl⟩
abbrev main_v383 : Ref sig .tc := ⟨.hbm, 425, rfl⟩
abbrev main_v384 : Ref sig .tc := ⟨.hbm, 426, rfl⟩
abbrev main_v385 : Ref sig .tc := ⟨.hbm, 427, rfl⟩
abbrev main_v386 : Ref sig .tc := ⟨.hbm, 428, rfl⟩
abbrev main_c_32 : Ref sig .tc := ⟨.hbm, 429, rfl⟩
abbrev main_v387 : Ref sig .tc := ⟨.hbm, 430, rfl⟩
abbrev main_v388 : Ref sig .tc := ⟨.hbm, 431, rfl⟩
abbrev main_v389 : Ref sig .tc := ⟨.hbm, 432, rfl⟩
abbrev main_v390 : Ref sig .tc := ⟨.hbm, 433, rfl⟩
abbrev main_v391 : Ref sig .tc := ⟨.hbm, 434, rfl⟩
abbrev main_c_33 : Ref sig .tc := ⟨.hbm, 435, rfl⟩
abbrev main_v392 : Ref sig .tc := ⟨.hbm, 436, rfl⟩
abbrev main_v393 : Ref sig .tc := ⟨.hbm, 437, rfl⟩
abbrev main_v394 : Ref sig .tc := ⟨.hbm, 438, rfl⟩
abbrev main_v395 : Ref sig .tc := ⟨.hbm, 439, rfl⟩
abbrev main_v396 : Ref sig .tc := ⟨.hbm, 440, rfl⟩
abbrev main_c_34 : Ref sig .tc := ⟨.hbm, 441, rfl⟩
abbrev main_v397 : Ref sig .tc := ⟨.hbm, 442, rfl⟩
abbrev main_v398 : Ref sig .tc := ⟨.hbm, 443, rfl⟩
abbrev main_v399 : Ref sig .tc := ⟨.hbm, 444, rfl⟩
abbrev main_v400 : Ref sig .tc := ⟨.hbm, 445, rfl⟩
abbrev main_v401 : Ref sig .tc := ⟨.hbm, 446, rfl⟩
abbrev main_c_35 : Ref sig .tc := ⟨.hbm, 447, rfl⟩
abbrev main_v402 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_v406 : Ref sig .tc := ⟨.hbm, 452, rfl⟩
abbrev main_c_36 : Ref sig .tc := ⟨.hbm, 453, rfl⟩
abbrev main_v407 : Ref sig .tc := ⟨.hbm, 454, rfl⟩
abbrev main_v408 : Ref sig .tc := ⟨.hbm, 455, rfl⟩
abbrev main_v409 : Ref sig .tc := ⟨.hbm, 456, rfl⟩
abbrev main_v410 : Ref sig .tc := ⟨.hbm, 457, rfl⟩
abbrev main_v411 : Ref sig .tc := ⟨.hbm, 458, rfl⟩
abbrev main_c_37 : Ref sig .tc := ⟨.hbm, 459, rfl⟩
abbrev main_v412 : Ref sig .tc := ⟨.hbm, 460, rfl⟩
abbrev main_v413 : Ref sig .tc := ⟨.hbm, 461, rfl⟩
abbrev main_v414 : Ref sig .tc := ⟨.hbm, 462, rfl⟩
abbrev main_v415 : Ref sig .tc := ⟨.hbm, 463, rfl⟩
abbrev main_v416 : Ref sig .tc := ⟨.hbm, 464, rfl⟩
abbrev main_c_38 : Ref sig .tc := ⟨.hbm, 465, rfl⟩
abbrev main_v417 : Ref sig .tc := ⟨.hbm, 466, rfl⟩
abbrev main_v418 : Ref sig .tc := ⟨.hbm, 467, rfl⟩
abbrev main_v419 : Ref sig .tc := ⟨.hbm, 468, rfl⟩
abbrev main_v420 : Ref sig .tc := ⟨.hbm, 469, rfl⟩
abbrev main_v421 : Ref sig .tc := ⟨.hbm, 470, rfl⟩
abbrev main_c_39 : Ref sig .tc := ⟨.hbm, 471, rfl⟩
abbrev main_v422 : Ref sig .tc := ⟨.hbm, 472, rfl⟩
abbrev main_v423 : Ref sig .tc := ⟨.hbm, 473, rfl⟩
abbrev main_v424 : Ref sig .tc := ⟨.hbm, 474, rfl⟩
abbrev main_v425 : Ref sig .tc := ⟨.hbm, 475, rfl⟩
abbrev main_v426 : Ref sig .tc := ⟨.hbm, 476, rfl⟩
abbrev main_v427 : Ref sig .tc := ⟨.hbm, 477, rfl⟩
abbrev main_v428 : Ref sig .tc := ⟨.hbm, 478, rfl⟩
abbrev main_v429 : Ref sig .tc := ⟨.hbm, 479, rfl⟩
abbrev main_v430 : Ref sig .tc := ⟨.hbm, 480, rfl⟩
abbrev main_v431 : Ref sig .tc := ⟨.hbm, 481, rfl⟩
abbrev main_v432 : Ref sig .tc := ⟨.hbm, 482, rfl⟩
abbrev main_cst_40 : Ref sig .tc := ⟨.hbm, 483, rfl⟩
abbrev main_v433 : Ref sig .tc := ⟨.hbm, 484, rfl⟩
abbrev main_v434 : Ref sig .tc := ⟨.hbm, 485, rfl⟩
abbrev main_v435 : Ref sig .tc := ⟨.hbm, 486, rfl⟩
abbrev main_v436 : Ref sig .tc := ⟨.hbm, 487, rfl⟩
abbrev main_v437 : Ref sig .tc := ⟨.hbm, 488, rfl⟩
abbrev main_v438 : Ref sig .tc := ⟨.hbm, 489, rfl⟩
abbrev main_cst_41 : Ref sig .tc := ⟨.hbm, 490, rfl⟩
abbrev main_v439 : Ref sig .tc := ⟨.hbm, 491, rfl⟩
abbrev main_v440 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_cst_42 : Ref sig .tc := ⟨.hbm, 497, rfl⟩
abbrev main_v445 : Ref sig .tc := ⟨.hbm, 498, rfl⟩
abbrev main_v446 : Ref sig .tc := ⟨.hbm, 499, rfl⟩
abbrev main_v447 : Ref sig .tc := ⟨.hbm, 500, rfl⟩
abbrev main_v448 : Ref sig .tc := ⟨.hbm, 501, rfl⟩
abbrev main_v449 : Ref sig .tc := ⟨.hbm, 502, rfl⟩
abbrev main_v450 : Ref sig .tc := ⟨.hbm, 503, rfl⟩
abbrev main_cst_43 : Ref sig .tc := ⟨.hbm, 504, rfl⟩
abbrev main_v451 : Ref sig .tc := ⟨.hbm, 505, rfl⟩
abbrev main_v452 : Ref sig .tc := ⟨.hbm, 506, rfl⟩
abbrev main_v453 : Ref sig .tc := ⟨.hbm, 507, rfl⟩
abbrev main_v454 : Ref sig .tc := ⟨.hbm, 508, rfl⟩
abbrev main_v455 : Ref sig .tc := ⟨.hbm, 509, rfl⟩
abbrev main_v456 : Ref sig .tc := ⟨.hbm, 510, rfl⟩
abbrev main_cst_44 : Ref sig .tc := ⟨.hbm, 511, rfl⟩
abbrev main_v457 : Ref sig .tc := ⟨.hbm, 512, rfl⟩
abbrev main_v458 : Ref sig .tc := ⟨.hbm, 513, rfl⟩
abbrev main_v459 : Ref sig .tc := ⟨.hbm, 514, rfl⟩
abbrev main_v460 : Ref sig .tc := ⟨.hbm, 515, rfl⟩
abbrev main_v461 : Ref sig .tc := ⟨.hbm, 516, rfl⟩
abbrev main_v462 : Ref sig .tc := ⟨.hbm, 517, rfl⟩
abbrev main_cst_45 : Ref sig .tc := ⟨.hbm, 518, rfl⟩
abbrev main_v463 : Ref sig .tc := ⟨.hbm, 519, rfl⟩
abbrev main_v464 : Ref sig .tc := ⟨.hbm, 520, rfl⟩
abbrev main_v465 : Ref sig .tc := ⟨.hbm, 521, rfl⟩
abbrev main_v466 : Ref sig .tc := ⟨.hbm, 522, rfl⟩
abbrev main_v467 : Ref sig .tc := ⟨.hbm, 523, rfl⟩
abbrev main_v468 : Ref sig .tc := ⟨.hbm, 524, rfl⟩
abbrev main_cst_46 : Ref sig .tc := ⟨.hbm, 525, rfl⟩
abbrev main_v469 : Ref sig .tc := ⟨.hbm, 526, rfl⟩
abbrev main_v470 : Ref sig .tc := ⟨.hbm, 527, rfl⟩
abbrev main_v471 : Ref sig .tc := ⟨.hbm, 528, rfl⟩
abbrev main_v472 : Ref sig .tc := ⟨.hbm, 529, rfl⟩
abbrev main_v473 : Ref sig .tc := ⟨.hbm, 530, rfl⟩
abbrev main_v474 : Ref sig .tc := ⟨.hbm, 531, rfl⟩
abbrev main_cst_47 : Ref sig .tc := ⟨.hbm, 532, rfl⟩
abbrev main_v475 : Ref sig .tc := ⟨.hbm, 533, rfl⟩
abbrev main_v476 : Ref sig .tc := ⟨.hbm, 534, rfl⟩
abbrev main_v477 : Ref sig .tc := ⟨.hbm, 535, rfl⟩
abbrev main_v478 : Ref sig .tc := ⟨.hbm, 536, rfl⟩
abbrev main_v479 : Ref sig .tc := ⟨.hbm, 537, rfl⟩
abbrev main_v480 : Ref sig .tc := ⟨.hbm, 538, rfl⟩
abbrev main_cst_48 : Ref sig .tc := ⟨.hbm, 539, rfl⟩
abbrev main_v481 : Ref sig .tc := ⟨.hbm, 540, rfl⟩
abbrev main_v482 : Ref sig .tc := ⟨.hbm, 541, rfl⟩
abbrev main_v483 : Ref sig .tc := ⟨.hbm, 542, rfl⟩
abbrev main_v484 : Ref sig .tc := ⟨.hbm, 543, rfl⟩
abbrev main_v485 : Ref sig .tc := ⟨.hbm, 544, rfl⟩
abbrev main_v486 : Ref sig .tc := ⟨.hbm, 545, rfl⟩
abbrev main_cst_49 : Ref sig .tc := ⟨.hbm, 546, rfl⟩
abbrev main_v487 : Ref sig .tc := ⟨.hbm, 547, rfl⟩
abbrev main_v488 : Ref sig .tc := ⟨.hbm, 548, rfl⟩
abbrev main_v489 : Ref sig .tc := ⟨.hbm, 549, rfl⟩
abbrev main_v490 : Ref sig .tc := ⟨.hbm, 550, rfl⟩
abbrev main_v491 : Ref sig .tc := ⟨.hbm, 551, rfl⟩
abbrev main_v492 : Ref sig .tc := ⟨.hbm, 552, rfl⟩
abbrev main_cst_50 : Ref sig .tc := ⟨.hbm, 553, rfl⟩
abbrev main_v493 : Ref sig .tc := ⟨.hbm, 554, rfl⟩
abbrev main_v494 : Ref sig .tc := ⟨.hbm, 555, rfl⟩
abbrev main_v495 : Ref sig .tc := ⟨.hbm, 556, rfl⟩
abbrev main_v496 : Ref sig .tc := ⟨.hbm, 557, rfl⟩
abbrev main_v497 : Ref sig .tc := ⟨.hbm, 558, rfl⟩
abbrev main_v498 : Ref sig .tc := ⟨.hbm, 559, rfl⟩
abbrev main_cst_51 : Ref sig .tc := ⟨.hbm, 560, rfl⟩
abbrev main_v499 : Ref sig .tc := ⟨.hbm, 561, rfl⟩
abbrev main_v500 : Ref sig .tc := ⟨.hbm, 562, rfl⟩
abbrev main_v501 : Ref sig .tc := ⟨.hbm, 563, rfl⟩
abbrev main_v502 : Ref sig .tc := ⟨.hbm, 564, rfl⟩
abbrev main_v503 : Ref sig .tc := ⟨.hbm, 565, rfl⟩
abbrev main_v504 : Ref sig .tc := ⟨.hbm, 566, rfl⟩
abbrev main_v505 : Ref sig .tc := ⟨.hbm, 567, rfl⟩
abbrev main_v506 : Ref sig .tc := ⟨.hbm, 568, rfl⟩
abbrev main_v507 : Ref sig .tc := ⟨.hbm, 569, rfl⟩
abbrev main_v508 : Ref sig .tc := ⟨.hbm, 570, rfl⟩
abbrev main_v509 : Ref sig .tc := ⟨.hbm, 571, rfl⟩
abbrev main_v510 : Ref sig .tc := ⟨.hbm, 572, rfl⟩
abbrev main_v511 : Ref sig .tc := ⟨.hbm, 573, rfl⟩
abbrev main_v512 : Ref sig .tc := ⟨.hbm, 574, rfl⟩
abbrev main_v513 : Ref sig .tc := ⟨.hbm, 575, rfl⟩
abbrev main_v514 : Ref sig .tc := ⟨.hbm, 576, rfl⟩
abbrev main_v515 : Ref sig .tc := ⟨.hbm, 577, rfl⟩
abbrev main_v516 : Ref sig .tc := ⟨.hbm, 578, rfl⟩
abbrev main_v517 : Ref sig .tc := ⟨.hbm, 579, rfl⟩
abbrev main_v518 : Ref sig .tc := ⟨.hbm, 580, rfl⟩
abbrev main_v519 : Ref sig .tc := ⟨.hbm, 581, rfl⟩
abbrev main_v520 : Ref sig .tc := ⟨.hbm, 582, rfl⟩
abbrev main_call73_cst : Ref sig .tc := ⟨.hbm, 583, rfl⟩
abbrev main_call73_v0 : Ref sig .tc := ⟨.hbm, 584, rfl⟩
abbrev main_v521 : Ref sig .tc := ⟨.hbm, 585, rfl⟩
abbrev main_v522 : Ref sig .tc := ⟨.hbm, 586, rfl⟩
abbrev main_v523 : Ref sig .tc := ⟨.hbm, 587, rfl⟩
abbrev main_v524 : Ref sig .tc := ⟨.hbm, 588, rfl⟩
abbrev main_v525 : Ref sig .tc := ⟨.hbm, 589, rfl⟩
abbrev main_v526 : Ref sig .tc := ⟨.hbm, 590, rfl⟩
abbrev main_cst_52 : Ref sig .tc := ⟨.hbm, 591, rfl⟩
abbrev main_v527 : Ref sig .tc := ⟨.hbm, 592, rfl⟩
abbrev main_v528 : Ref sig .tc := ⟨.hbm, 593, rfl⟩
abbrev main_cst_53 : Ref sig .tc := ⟨.hbm, 594, rfl⟩
abbrev main_v529 : Ref sig .tc := ⟨.hbm, 595, rfl⟩
abbrev main_v530 : Ref sig .tc := ⟨.hbm, 596, rfl⟩
abbrev main_v531 : Ref sig .tc := ⟨.hbm, 597, rfl⟩
abbrev main_v532 : Ref sig .tc := ⟨.hbm, 598, rfl⟩

abbrev nD : Nat := 1
abbrev τ : Topo := Topo.v7x

variable {F : FTy → Type} [FloatOps F]
-- ==== Proof.KDef.lean ====
/- The kernel's body as a few functions of tiles: the rotation of a tile, one gate, one layer, the ring of controlled
   flips, the probabilities and the expectation values; and that the body's run computes exactly these. -/
module

public import proofs.«01_k».proof.Proof.Gen.KernelIdeal.Frame

@[expose] public section

set_option maxRecDepth 16384

noncomputable section

namespace Cert.KCircuit

open Idealize.ShloMosaic Idealize.ShloMosaic.TcCoe Cert.KernelIdeal Cert.KernelIdeal.Gen

/-- A tile whose rows are moved up by `n`, the first `n` rows coming back at the bottom. -/
def rotRow {α : Type} (n : ℕ) (hn : n ≤ 32) (x : S32x128.Idx → α) : S32x128.Idx → α :=
  concatenate S32x128 0
    [⟨⟨2, ![32 - n, 128]⟩, extractStridedSlice ⟨2, ![32 - n, 128]⟩ ![n, 0] x
      ⟨rfl, fun a => by match a with
        | ⟨0, _⟩ => show n + (32 - n) ≤ 32; omega
        | ⟨1, _⟩ => exact Nat.le_refl 128⟩⟩,
     ⟨⟨2, ![n, 128]⟩, extractStridedSlice ⟨2, ![n, 128]⟩ ![0, 0] x
      ⟨rfl, fun a => by match a with
        | ⟨0, _⟩ => show 0 + n ≤ 32; omega
        | ⟨1, _⟩ => exact Nat.le_refl 128⟩⟩]
    ⟨Nat.le_refl 2, fun s hs => by
      rcases List.mem_cons.1 hs with rfl | hs
      · refine ⟨rfl, fun b hb => ?_⟩
        match b, hb with
        | ⟨1, _⟩, _ => rfl
        | ⟨0, _⟩, hb => exact absurd rfl hb
      · obtain rfl := List.mem_singleton.1 hs
        refine ⟨rfl, fun b hb => ?_⟩
        match b, hb with
        | ⟨1, _⟩, _ => rfl
        | ⟨0, _⟩, hb => exact absurd rfl hb,
     by show (32 - n) + (n + 0) = 32; omega⟩

/-- A tile whose lanes are moved left by `n`, the first `n` lanes coming back at the right. -/
def rotLane {α : Type} (n : ℕ) (hn : n ≤ 128) (x : S32x128.Idx → α) : S32x128.Idx → α :=
  concatenate S32x128 1
    [⟨⟨2, ![32, 128 - n]⟩, extractStridedSlice ⟨2, ![32, 128 - n]⟩ ![0, n] x
      ⟨rfl, fun a => by match a with
        | ⟨0, _⟩ => exact Nat.le_refl 32
        | ⟨1, _⟩ => show n + (128 - n) ≤ 128; omega⟩⟩,
     ⟨⟨2, ![32, n]⟩, extractStridedSlice ⟨2, ![32, n]⟩ ![0, 0] x
      ⟨rfl, fun a => by match a with
        | ⟨0, _⟩ => exact Nat.le_refl 32
        | ⟨1, _⟩ => show 0 + n ≤ 128; omega⟩⟩]
    ⟨Nat.le_refl 2, fun s hs => by
      rcases List.mem_cons.1 hs with rfl | hs
      · refine ⟨rfl, fun b hb => ?_⟩
        match b, hb with
        | ⟨0, _⟩, _ => rfl
        | ⟨1, _⟩, hb => exact absurd rfl hb
      · obtain rfl := List.mem_singleton.1 hs
        refine ⟨rfl, fun b hb => ?_⟩
        match b, hb with
        | ⟨0, _⟩, _ => rfl
        | ⟨1, _⟩, hb => exact absurd rfl hb,
     by show (128 - n) + (n + 0) = 128; omega⟩

variable {F : FTy → Type} [FloatOps F]

/-- A tile of float words. -/
abbrev Tile (F : FTy → Type) := FVec F S32x128 .f32

/-- The row number at every position. -/
abbrev rowIdx : IVec S32x128 32 := iota .tc S32x128 32 [0] iota_S32x128_d0_w32
/-- The lane number at every position. -/
abbrev laneIdx : IVec S32x128 32 := iota .tc S32x128 32 [1] iota_S32x128_d1_w32

/-- Where bit `s` of the number `x` is one. -/
def bitOf (x : IVec S32x128 32) (s : BitVec 32) : IVec S32x128 1 :=
  cmpi .eq (andi (shrsi x (broadcast S32x128 s)) (broadcast S32x128 1#32)) (broadcast S32x128 1#32)

/-- The tile of partners over a row bit: the row `s` above where the bit is one, the row `s` below elsewhere. -/
def partRow (s : ℕ) (hs : s ≤ 32) (b : IVec S32x128 1) (x : Tile F) : Tile F :=
  select b (rotRow (32 - s) (Nat.sub_le 32 s) x) (rotRow s hs x)

/-- The tile of partners over a lane bit. -/
def partLane (s : ℕ) (hs : s ≤ 128) (b : IVec S32x128 1) (x : Tile F) : Tile F :=
  select b (rotLane (128 - s) (Nat.sub_le 128 s) x) (rotLane s hs x)

/-- Half of an angle, as the kernel takes it. -/
def half (x : F .f32) : F .f32 := Scalar.mulf x (Scalar.ofBits .f32 0x3F000000#32)
/-- The negative of a word, as the kernel takes it. -/
def neg (x : F .f32) : F .f32 := Scalar.subf (Scalar.ofBits .f32 0x00000000#32) x

/-- The real part of a complex product. -/
def cmulRe (a b c d : F .f32) : F .f32 := Scalar.subf (Scalar.mulf a c) (Scalar.mulf b d)
/-- The imaginary part of a complex product. -/
def cmulIm (a b c d : F .f32) : F .f32 := Scalar.addf (Scalar.mulf a d) (Scalar.mulf b c)

/-- The eight numbers of a gate: real and imaginary parts of its four entries. -/
structure Entries (F : FTy → Type) where
  r00 : F .f32
  i00 : F .f32
  r01 : F .f32
  i01 : F .f32
  r10 : F .f32
  i10 : F .f32
  r11 : F .f32
  i11 : F .f32

/-- A gate's entries from the cosines and sines of its three half angles. -/
def entriesOf (cx sx cy sy cz sz : F .f32) : Entries F where
  r00 := cmulRe cz (neg sz) (Scalar.mulf cy cx) (Scalar.mulf sy sx)
  i00 := cmulIm cz (neg sz) (Scalar.mulf cy cx) (Scalar.mulf sy sx)
  r01 := cmulRe cz (neg sz) (Scalar.mulf (neg sy) cx) (Scalar.mulf (neg cy) sx)
  i01 := cmulIm cz (neg sz) (Scalar.mulf (neg sy) cx) (Scalar.mulf (neg cy) sx)
  r10 := cmulRe cz sz (Scalar.mulf sy cx) (Scalar.mulf (neg cy) sx)
  i10 := cmulIm cz sz (Scalar.mulf sy cx) (Scalar.mulf (neg cy) sx)
  r11 := cmulRe cz sz (Scalar.mulf cy cx) (Scalar.mulf (neg sy) sx)
  i11 := cmulIm cz sz (Scalar.mulf cy cx) (Scalar.mulf (neg sy) sx)

/-- A gate's entries from its three angles. -/
def entries (t : Fin 3 → F .f32) : Entries F :=
  entriesOf (Scalar.cos (half (t 0))) (Scalar.sin (half (t 0))) (Scalar.cos (half (t 1))) (Scalar.sin (half (t 1)))
    (Scalar.cos (half (t 2))) (Scalar.sin (half (t 2)))

/-- A tile that is one number where the bit is one and another elsewhere. -/
def pick (b : IVec S32x128 1) (x y : F .f32) : Tile F := select b (broadcast S32x128 x) (broadcast S32x128 y)

/-- The real tile after a gate, from the tiles, their partners and the bit. -/
def gateRe (b : IVec S32x128 1) (u : Entries F) (re im pre pim : Tile F) : Tile F :=
  subf (addf (subf (mulf (pick b u.r10 u.r00) (select b pre re)) (mulf (pick b u.i10 u.i00) (select b pim im)))
    (mulf (pick b u.r11 u.r01) (select b re pre))) (mulf (pick b u.i11 u.i01) (select b im pim))

/-- The imaginary tile after a gate. -/
def gateIm (b : IVec S32x128 1) (u : Entries F) (re im pre pim : Tile F) : Tile F :=
  addf (addf (addf (mulf (pick b u.r10 u.r00) (select b pim im)) (mulf (pick b u.i10 u.i00) (select b pre re)))
    (mulf (pick b u.r11 u.r01) (select b im pim))) (mulf (pick b u.i11 u.i01) (select b re pre))

/-- A gate on a wire whose bit is bit `j` of the row. -/
def gateRow (j : ℕ) (hj : 2 ^ j ≤ 32) (t : Fin 3 → F .f32) (st : Tile F × Tile F) : Tile F × Tile F :=
  let b := bitOf rowIdx (BitVec.ofNat 32 j)
  (gateRe b (entries t) st.1 st.2 (partRow (2 ^ j) hj b st.1) (partRow (2 ^ j) hj b st.2),
   gateIm b (entries t) st.1 st.2 (partRow (2 ^ j) hj b st.1) (partRow (2 ^ j) hj b st.2))

/-- A gate on a wire whose bit is bit `j` of the lane. -/
def gateLane (j : ℕ) (hj : 2 ^ j ≤ 128) (t : Fin 3 → F .f32) (st : Tile F × Tile F) : Tile F × Tile F :=
  let b := bitOf laneIdx (BitVec.ofNat 32 j)
  (gateRe b (entries t) st.1 st.2 (partLane (2 ^ j) hj b st.1) (partLane (2 ^ j) hj b st.2),
   gateIm b (entries t) st.1 st.2 (partLane (2 ^ j) hj b st.1) (partLane (2 ^ j) hj b st.2))

/-- The twelve gates of a layer. -/
def gates (t : Fin 12 → Fin 3 → F .f32) (st : Tile F × Tile F) : Tile F × Tile F :=
  gateLane 0 (by decide) (t 11) <| gateLane 1 (by decide) (t 10) <| gateLane 2 (by decide) (t 9) <|
  gateLane 3 (by decide) (t 8) <| gateLane 4 (by decide) (t 7) <| gateLane 5 (by decide) (t 6) <|
  gateLane 6 (by decide) (t 5) <| gateRow 0 (by decide) (t 4) <| gateRow 1 (by decide) (t 3) <|
  gateRow 2 (by decide) (t 2) <| gateRow 3 (by decide) (t 1) <| gateRow 4 (by decide) (t 0) st

/-- The angle of layer `l`, wire `q` and axis `i`, as the body loads it. -/
def angle (arg3 : Memref sig .tc .smem S3x3x12 .f32) (harg3 : arg3.IsWhole) (x0 : Vec F S3x3x12 .f32) (l : Fin 3)
    (q : Fin 12) (i : Fin 3) : F .f32 :=
  arg3.view.readAt (Elt F) (Rect.unit (s := S3x3x12) ![l.val, i.val, q.val] S1x1x1.size (fun a => by
    match a with
    | ⟨0, _⟩ => exact l.isLt
    | ⟨1, _⟩ => exact i.isLt
    | ⟨2, _⟩ => exact q.isLt)).toLoadRect (harg3.unread x0) (Shape.Idx.first (show 0 < S1x1x1.numel by rw [numel1_S1x1x1]; exact Nat.one_pos))

/-- The first state: one at position zero. -/
def start : Tile F × Tile F :=
  (select (cmpi .eq (addi rowIdx laneIdx) (broadcast S32x128 0#32)) (broadcast S32x128 (Scalar.ofBits .f32 0x3F800000#32))
    (broadcast S32x128 (Scalar.ofBits .f32 0x00000000#32)), broadcast S32x128 (Scalar.ofBits .f32 0x00000000#32))

/-- `a` with each of its shifts by one, two, three and four places added without carry. -/
def prefix5 (a : IVec S32x32 32) : IVec S32x32 32 :=
  xori (xori (xori (xori a (shrsi a (broadcast S32x32 1#32))) (shrsi a (broadcast S32x32 2#32)))
    (shrsi a (broadcast S32x32 3#32))) (shrsi a (broadcast S32x32 4#32))

/-- `a` with each of its shifts by one to six places added without carry. -/
def prefix7 (a : IVec S128x128 32) : IVec S128x128 32 :=
  xori (xori (xori (xori (xori (xori a (shrsi a (broadcast S128x128 1#32))) (shrsi a (broadcast S128x128 2#32)))
    (shrsi a (broadcast S128x128 3#32))) (shrsi a (broadcast S128x128 4#32))) (shrsi a (broadcast S128x128 5#32)))
    (shrsi a (broadcast S128x128 6#32))

/-- The matrix of the rows' permutation. -/
def permRow : FVec F S32x32 .f32 :=
  sitofp .f32 (extui 32 (cmpi .eq (iota .tc S32x32 32 [1] iota_S32x32_d1_w32)
    (prefix5 (iota .tc S32x32 32 [0] iota_S32x32_d0_w32))) natLt_1_32)

/-- The matrix of the lanes' permutation. -/
def permLane : FVec F S128x128 .f32 :=
  sitofp .f32 (extui 32 (cmpi .eq (iota .tc S128x128 32 [1] iota_S128x128_d1_w32)
    (prefix7 (iota .tc S128x128 32 [0] iota_S128x128_d0_w32))) natLt_1_32)

/-- The ring of twelve controlled flips on one tile. -/
def ringRows (x : Tile F) : Tile F :=
  matmul dot_S32x32_S32x128_S32x128_0_0_1_1_n_n none permRow x (constant S32x128 .f32 0x00000000#32)
/-- The lanes' half turn where the last row bit is one. -/
def ringTurn (x : Tile F) : Tile F := select (bitOf rowIdx 0#32) (rotLane 64 (by decide) x) x
/-- The lanes' permutation. -/
def ringLanes (x : Tile F) : Tile F :=
  matmul dot_S32x128_S128x128_S32x128_1_0_0_1_n_n none x permLane (constant S32x128 .f32 0x00000000#32)
/-- The rows' half turn where the last lane bit is one. -/
def ringBack (x : Tile F) : Tile F := select (bitOf laneIdx 0#32) (rotRow 16 (by decide) x) x
/-- The ring of twelve controlled flips on one tile. -/
def ring (x : Tile F) : Tile F := ringBack (ringLanes (ringTurn (ringRows x)))

/-- One layer. -/
def layer (t : Fin 12 → Fin 3 → F .f32) (st : Tile F × Tile F) : Tile F × Tile F :=
  (ring (gates t st).1, ring (gates t st).2)

/-- The last state. -/
def final (t : Fin 3 → Fin 12 → Fin 3 → F .f32) : Tile F × Tile F := layer (t 2) (layer (t 1) (layer (t 0) start))

/-- The probabilities of a state. -/
def probs (st : Tile F × Tile F) : Tile F := addf (mulf st.1 st.1) (mulf st.2 st.2)

/-- The sum of a tile with its sign changed where the bit is one. -/
def zval (b : IVec S32x128 1) (p : Tile F) : F .f32 :=
  extractAt ![0, 0, 0] (shapeCast S1x1x1 (multiReduction .add [1, 2] S1
    (shapeCast S1x32x128 (select b (subf (broadcast S32x128 (Scalar.ofBits .f32 0x00000000#32)) p) p)
      shapeCasts_S32x128_S1x32x128) 0x00000000#32 reduces_S1x32x128_S1 (.inl rfl) rfl) shapeCasts_S1_S1x1x1)
    inpos_S1x1x1_p0_0_0

/-- One step of the hidden layer's sum. -/
def accStep (b : IVec S32x128 1) (p : Tile F) (row acc : FVec F S1x32 .f32) : FVec F S1x32 .f32 :=
  addf acc (mulf (broadcast S1x32 (zval b p)) (shapeCast S1x32 row shapeCasts_S1x32_S1x32))

/-- The hidden layer's sum. -/
def acc (p : Tile F) (row : Fin 12 → FVec F S1x32 .f32) (b1 : FVec F S1x32 .f32) : FVec F S1x32 .f32 :=
  accStep (bitOf laneIdx 0#32) p (row 11) <| accStep (bitOf laneIdx 1#32) p (row 10) <|
  accStep (bitOf laneIdx 2#32) p (row 9) <| accStep (bitOf laneIdx 3#32) p (row 8) <|
  accStep (bitOf laneIdx 4#32) p (row 7) <| accStep (bitOf laneIdx 5#32) p (row 6) <|
  accStep (bitOf laneIdx 6#32) p (row 5) <| accStep (bitOf rowIdx 0#32) p (row 4) <|
  accStep (bitOf rowIdx 1#32) p (row 3) <| accStep (bitOf rowIdx 2#32) p (row 2) <|
  accStep (bitOf rowIdx 3#32) p (row 1) <| accStep (bitOf rowIdx 4#32) p (row 0) (shapeCast S1x32 b1 shapeCasts_S1x32_S1x32)

/-- The sixteen pixels, each repeated along the lanes. -/
def pixels (a : FVec F S1x32 .f32) (w2 : FVec F S16x32 .f32) (b2 : FVec F S1x16 .f32) : FVec F S16x128 .f32 :=
  matmul dot_S1x16_S1x128_S16x128_0_0_1_1_n_n none
    (logistic (addf (matmul dot_S1x32_S16x32_S1x16_1_1_0_0_n_n none
      (maximumf a (broadcast S1x32 (Scalar.ofBits .f32 0x00000000#32))) w2 (constant S1x16 .f32 0x00000000#32))
      (shapeCast S1x16 b2 shapeCasts_S1x16_S1x16)))
    (broadcast S1x128 (Scalar.ofBits .f32 0x3F800000#32)) (constant S16x128 .f32 0x00000000#32)

/-- The tile kept from the first grid point on: four rows of pixels, twice, for each of the four rows of the picture. -/
def kept (m : FVec F S16x128 .f32) : Tile F :=
  k0_pay1 (extractStridedSlice S4x128 ![0, 0] m slices_S16x128_o0_0_S4x128)
    (extractStridedSlice S4x128 ![4, 0] m slices_S16x128_o4_0_S4x128)
    (extractStridedSlice S4x128 ![8, 0] m slices_S16x128_o8_0_S4x128)
    (extractStridedSlice S4x128 ![12, 0] m slices_S16x128_o12_0_S4x128)

/-- Row `q` of the first layer's weights, as the body loads it. -/
def row (arg4 : Memref sig .tc .vmem S12x32 .f32) (harg4 : arg4.IsWhole) (x1 : Vec F S12x32 .f32) (q : Fin 12) :
    FVec F S1x32 .f32 :=
  arg4.view.readAt (Elt F) (Rect.unit (s := S12x32) ![q.val, 0] S1x32.size (fun a => by
    match a with
    | ⟨0, _⟩ => exact q.isLt
    | ⟨1, _⟩ => exact Nat.le_refl 32)).toLoadRect (harg4.unread x1)

open kernelRun0_A

/-- The run's probabilities are those of the last state. -/
theorem probs_eq (c : Dev nD) (arg3 : Memref sig .tc .smem S3x3x12 .f32) (harg3 : arg3.IsWhole) (x0 : Vec F S3x3x12 .f32) :
    sl.r_732 c arg3 harg3 x0 = probs (final (angle arg3 harg3 x0)) := rfl

end Cert.KCircuit
end
-- ==== Proof.Sem.lean ====
/- States of twelve two-valued wires: a gate on a wire, a controlled flip, the ring of controlled flips, a layer. -/
module

public import Mathlib.Data.EReal.Operations
public import Mathlib.Data.Fin.Tuple.Basic
public import Mathlib.Algebra.BigOperators.Fin
public import Mathlib.Tactic.FinCases
public import Idealize.ShloMosaic.PureOps.Ideal

@[expose] public section

noncomputable section

namespace Cert.Sem

open Idealize.ShloMosaic

/-- A value of each of the twelve wires. -/
abbrev Wires : Type := Fin 12 → Fin 2

/-- A state: the real part (0) and the imaginary part (1) of the amplitude at each value of the wires. -/
abbrev State : Type := Fin 2 → Wires → EReal

/-- A gate: how part `p'` of the amplitude with value `x` enters part `p` of the amplitude with value `a`. -/
abbrev Gate : Type := Fin 2 → Fin 2 → Fin 2 → Fin 2 → EReal

/-- The gate `u` on wire `q`. -/
def gate (q : Fin 12) (u : Gate) (f : State) : State := fun p b =>
  ∑ p' : Fin 2, ∑ x : Fin 2, u p (b q) p' x * f p' (Function.update b q x)

/-- The values of the wires with wire `t` flipped where wire `c` is one. -/
def flip (c t : Fin 12) (b : Wires) : Wires := fun q =>
  if q = t then if b c = 1 then (b t).rev else b t else b q

/-- Wire `t` flipped where wire `c` is one. -/
def cnot (c t : Fin 12) (f : State) : State := fun p b => f p (flip c t b)

/-- A complex two by two matrix as a gate. -/
def gateOf (re im : Fin 2 → Fin 2 → EReal) : Gate := fun p a p' b =>
  if p = p' then re a b else if p = 0 then -im a b else im a b

/-- The real part of the product of the rotations about z, y and x. -/
def rotRe (cx sx cy sy cz sz : EReal) : Fin 2 → Fin 2 → EReal :=
  ![![cz * cy * cx + sz * sy * sx, -(cz * sy * cx) + -(sz * cy * sx)],
    ![cz * sy * cx + sz * cy * sx, cz * cy * cx + sz * sy * sx]]

/-- The imaginary part of the product of the rotations about z, y and x. -/
def rotIm (cx sx cy sy cz sz : EReal) : Fin 2 → Fin 2 → EReal :=
  ![![cz * sy * sx + -(sz * cy * cx), -(cz * cy * sx) + sz * sy * cx],
    ![-(cz * cy * sx) + sz * sy * cx, -(cz * sy * sx) + sz * cy * cx]]

/-- Half of an angle. -/
def halfAngle (x : EReal) : EReal := x * (((1 / 2 : ℝ)) : EReal)

/-- The gate of three angles. -/
def angleGate (t : Fin 3 → EReal) : Gate :=
  gateOf
    (rotRe (Ideal.cos (halfAngle (t 0))) (Ideal.sin (halfAngle (t 0))) (Ideal.cos (halfAngle (t 1)))
      (Ideal.sin (halfAngle (t 1))) (Ideal.cos (halfAngle (t 2))) (Ideal.sin (halfAngle (t 2))))
    (rotIm (Ideal.cos (halfAngle (t 0))) (Ideal.sin (halfAngle (t 0))) (Ideal.cos (halfAngle (t 1)))
      (Ideal.sin (halfAngle (t 1))) (Ideal.cos (halfAngle (t 2))) (Ideal.sin (halfAngle (t 2))))

/-- The twelve gates of a layer. -/
def gates (u : Fin 12 → Gate) (f : State) : State :=
  gate 11 (u 11) <| gate 10 (u 10) <| gate 9 (u 9) <| gate 8 (u 8) <| gate 7 (u 7) <| gate 6 (u 6) <|
  gate 5 (u 5) <| gate 4 (u 4) <| gate 3 (u 3) <| gate 2 (u 2) <| gate 1 (u 1) <| gate 0 (u 0) f

/-- The ring of twelve controlled flips. -/
def ring (f : State) : State :=
  cnot 11 0 <| cnot 10 11 <| cnot 9 10 <| cnot 8 9 <| cnot 7 8 <| cnot 6 7 <| cnot 5 6 <| cnot 4 5 <|
  cnot 3 4 <| cnot 2 3 <| cnot 1 2 <| cnot 0 1 f

/-- One at the wires' values all zero. -/
def start : State := fun p b => if p = 0 ∧ b = 0 then 1 else 0

/-- Three layers from the first state. -/
def final (u : Fin 3 → Fin 12 → Gate) : State :=
  ring <| gates (u 2) <| ring <| gates (u 1) <| ring <| gates (u 0) start

/-- The probability of each value of the wires. -/
def prob (f : State) (b : Wires) : EReal := f 0 b * f 0 b + f 1 b * f 1 b

/-- The expectation value of a wire: the probability of its being zero less that of its being one. -/
def expval (q : Fin 12) (p : Wires → EReal) : EReal :=
  ∑ b ∈ Finset.univ.filter (fun b : Wires => b q = 0), p b - ∑ b ∈ Finset.univ.filter (fun b : Wires => b q = 1), p b

/-- A wire's value added to another's without carry. -/
def add2 (x y : Fin 2) : Fin 2 := if x = 1 then y.rev else y

/-- Where the ring reads: each wire is its own value and the one's before it, the first two also the last one's. -/
def ringAt (b : Wires) : Wires :=
  ![add2 (b 11) (b 0), add2 (add2 (b 11) (b 0)) (b 1), add2 (b 1) (b 2), add2 (b 2) (b 3), add2 (b 3) (b 4),
    add2 (b 4) (b 5), add2 (b 5) (b 6), add2 (b 6) (b 7), add2 (b 7) (b 8), add2 (b 8) (b 9), add2 (b 9) (b 10),
    add2 (b 10) (b 11)]

/-- The ring reads the state at `ringAt`. -/
theorem ring_eq (f : State) (p : Fin 2) (b : Wires) : ring f p b = f p (ringAt b) := by
  show f p (flip _ _ (flip _ _ (flip _ _ (flip _ _ (flip _ _ (flip _ _ (flip _ _ (flip _ _ (flip _ _ (flip _ _
    (flip _ _ (flip _ _ b)))))))))))) = _
  congr 1
  funext q
  fin_cases q <;> rfl

/-- The network on the expectation values: a layer of thirty-two with the negative values cut off, then sixteen pixels
    between zero and one. -/
def net (z : Fin 12 → EReal) (w1 : Fin 32 → Fin 12 → EReal) (b1 : Fin 32 → EReal) (w2 : Fin 16 → Fin 32 → EReal)
    (b2 : Fin 16 → EReal) (k : Fin 16) : EReal :=
  Ideal.logistic (∑ j : Fin 32, max (∑ q : Fin 12, z q * w1 j q + b1 j) 0 * w2 k j + b2 k)

/-- The sixteen pixels from the angles and the network's weights. -/
def picture (t : Fin 3 → Fin 12 → Fin 3 → EReal) (w1 : Fin 32 → Fin 12 → EReal) (b1 : Fin 32 → EReal)
    (w2 : Fin 16 → Fin 32 → EReal) (b2 : Fin 16 → EReal) (k : Fin 16) : EReal :=
  net (fun q => expval q (prob (final fun l q => angleGate (t l q)))) w1 b1 w2 b2 k

end Cert.Sem
end
-- ==== Proof.Bits.lean ====
/- The positions of the kernel's tile as values of the twelve wires: a row's five bits are the first five wires, a lane's
   seven bits the other seven. -/
module

public import proofs.«01_k».proof.Proof.Sem
public import Mathlib.Data.Fintype.Card

@[expose] public section

set_option maxRecDepth 16384

noncomputable section

namespace Cert.Sem

/-- The wires' values at row `r` and lane `c`. -/
def bits (r : Fin 32) (c : Fin 128) : Wires := fun q =>
  if q.val < 5 then ⟨r.val / 2 ^ (4 - q.val) % 2, Nat.mod_lt _ Nat.two_pos⟩
  else ⟨c.val / 2 ^ (11 - q.val) % 2, Nat.mod_lt _ Nat.two_pos⟩

/-- The row `n` after `r`, around the end. -/
def rowUp (n : ℕ) (r : Fin 32) : Fin 32 := ⟨(r.val + n) % 32, Nat.mod_lt _ (by decide)⟩
/-- The lane `n` after `c`, around the end. -/
def laneUp (n : ℕ) (c : Fin 128) : Fin 128 := ⟨(c.val + n) % 128, Nat.mod_lt _ (by decide)⟩

/-- A row and the row `2 ^ j` after it differ in bit `j` alone where that bit is zero, and likewise before it. -/
theorem row_partner : ∀ (j k : Fin 5) (r : Fin 32),
    (rowUp (if r.val / 2 ^ j.val % 2 = 1 then 32 - 2 ^ j.val else 2 ^ j.val) r).val / 2 ^ k.val % 2 =
      if k = j then 1 - r.val / 2 ^ j.val % 2 else r.val / 2 ^ k.val % 2 := by decide +kernel

/-- The same of lanes. -/
theorem lane_partner : ∀ (j k : Fin 7) (c : Fin 128),
    (laneUp (if c.val / 2 ^ j.val % 2 = 1 then 128 - 2 ^ j.val else 2 ^ j.val) c).val / 2 ^ k.val % 2 =
      if k = j then 1 - c.val / 2 ^ j.val % 2 else c.val / 2 ^ k.val % 2 := by decide +kernel

/-- The wire that is bit `j` of the row. -/
def rowWire (j : Fin 5) : Fin 12 := ⟨4 - j.val, by omega⟩
/-- The wire that is bit `j` of the lane. -/
def laneWire (j : Fin 7) : Fin 12 := ⟨11 - j.val, by omega⟩

/-- The value of a row wire is its bit of the row. -/
theorem bits_rowWire (r : Fin 32) (c : Fin 128) (j : Fin 5) : (bits r c (rowWire j)).val = r.val / 2 ^ j.val % 2 := by
  unfold bits rowWire
  rw [if_pos (show 4 - j.val < 5 by omega)]
  show r.val / 2 ^ (4 - (4 - j.val)) % 2 = _
  rw [show 4 - (4 - j.val) = j.val by omega]

/-- The value of a lane wire is its bit of the lane. -/
theorem bits_laneWire (r : Fin 32) (c : Fin 128) (j : Fin 7) : (bits r c (laneWire j)).val = c.val / 2 ^ j.val % 2 := by
  unfold bits laneWire
  rw [if_neg (show ¬ 11 - j.val < 5 by omega)]
  show c.val / 2 ^ (11 - (11 - j.val)) % 2 = _
  rw [show 11 - (11 - j.val) = j.val by omega]

/-- Every wire is a bit of the row or of the lane. -/
theorem wire_cases (q : Fin 12) : (∃ j, q = rowWire j) ∨ ∃ j, q = laneWire j := by
  by_cases h : q.val < 5
  · exact .inl ⟨⟨4 - q.val, by omega⟩, Fin.ext (by show q.val = 4 - (4 - q.val); omega)⟩
  · exact .inr ⟨⟨11 - q.val, by omega⟩, Fin.ext (by show q.val = 11 - (11 - q.val); omega)⟩

/-- Different row bits are different wires. -/
theorem rowWire_inj {j k : Fin 5} : rowWire k = rowWire j ↔ k = j :=
  ⟨fun h => Fin.ext (by have := congrArg Fin.val h; simp only [rowWire] at this; omega), fun h => h ▸ rfl⟩
/-- Different lane bits are different wires. -/
theorem laneWire_inj {j k : Fin 7} : laneWire k = laneWire j ↔ k = j :=
  ⟨fun h => Fin.ext (by have := congrArg Fin.val h; simp only [laneWire] at this; omega), fun h => h ▸ rfl⟩
/-- No row bit is a lane bit. -/
theorem rowWire_ne (j : Fin 5) (k : Fin 7) : rowWire j ≠ laneWire k :=
  fun h => by have := congrArg Fin.val h; simp only [rowWire, laneWire] at this; omega

/-- The partner of a row over bit `j` has that wire flipped. -/
theorem bits_rowUp (j : Fin 5) (r : Fin 32) (c : Fin 128) :
    bits (rowUp (if bits r c (rowWire j) = 1 then 32 - 2 ^ j.val else 2 ^ j.val) r) c =
      Function.update (bits r c) (rowWire j) (bits r c (rowWire j)).rev := by
  have hc : bits r c (rowWire j) = 1 ↔ r.val / 2 ^ j.val % 2 = 1 := by rw [Fin.ext_iff, bits_rowWire]; rfl
  simp only [hc]
  funext q
  rcases wire_cases q with ⟨k, rfl⟩ | ⟨k, rfl⟩
  · refine Fin.ext ?_
    rw [bits_rowWire, row_partner]
    by_cases h : k = j
    · subst h
      rw [if_pos rfl, Function.update_self, Fin.val_rev, bits_rowWire]
      omega
    · rw [if_neg h, Function.update_of_ne (fun e => h (rowWire_inj.1 e)), bits_rowWire]
  · rw [Function.update_of_ne (rowWire_ne j k).symm]
    exact Fin.ext ((bits_laneWire _ c k).trans (bits_laneWire r c k).symm)

/-- The partner of a lane over bit `j` has that wire flipped. -/
theorem bits_laneUp (j : Fin 7) (r : Fin 32) (c : Fin 128) :
    bits r (laneUp (if bits r c (laneWire j) = 1 then 128 - 2 ^ j.val else 2 ^ j.val) c) =
      Function.update (bits r c) (laneWire j) (bits r c (laneWire j)).rev := by
  have hc : bits r c (laneWire j) = 1 ↔ c.val / 2 ^ j.val % 2 = 1 := by rw [Fin.ext_iff, bits_laneWire]; rfl
  simp only [hc]
  funext q
  rcases wire_cases q with ⟨k, rfl⟩ | ⟨k, rfl⟩
  · rw [Function.update_of_ne (rowWire_ne k j)]
    exact Fin.ext ((bits_rowWire r _ k).trans (bits_rowWire r c k).symm)
  · refine Fin.ext ?_
    rw [bits_laneWire, lane_partner]
    by_cases h : k = j
    · subst h
      rw [if_pos rfl, Function.update_self, Fin.val_rev, bits_laneWire]
      omega
    · rw [if_neg h, Function.update_of_ne (fun e => h (laneWire_inj.1 e)), bits_laneWire]

/-- Each bit of the row with the one above it added without carry. -/
def grayRow (r : Fin 32) : Fin 32 := ⟨(r.val ^^^ r.val / 2) % 32, Nat.mod_lt _ (by decide)⟩
/-- Each bit of the lane with the one above it added without carry. -/
def grayLane (c : Fin 128) : Fin 128 := ⟨(c.val ^^^ c.val / 2) % 128, Nat.mod_lt _ (by decide)⟩

/-- The row the ring reads at row `r` and lane `c`. -/
def ringRow (r : Fin 32) (c : Fin 128) : Fin 32 := if c.val % 2 = 1 then rowUp 16 r else r
/-- The lane the ring reads at row `r` and lane `c`. -/
def ringLane (r : Fin 32) (c : Fin 128) : Fin 128 := if r.val % 2 = 1 then laneUp 64 (grayLane c) else grayLane c

/-- The ring reads the tile where the ring of controlled flips reads the state. -/
theorem bits_ring : ∀ (r : Fin 32) (c : Fin 128), bits (grayRow (ringRow r c)) (ringLane (ringRow r c) c) = ringAt (bits r c) := by
  decide +kernel

/-- The row of the wires' values. -/
def rowOf (b : Wires) : ℕ := ((((b 0).val * 2 + (b 1).val) * 2 + (b 2).val) * 2 + (b 3).val) * 2 + (b 4).val
/-- The lane of the wires' values. -/
def laneOf (b : Wires) : ℕ :=
  ((((((b 5).val * 2 + (b 6).val) * 2 + (b 7).val) * 2 + (b 8).val) * 2 + (b 9).val) * 2 + (b 10).val) * 2 + (b 11).val

/-- The row is found again from the wires' values. -/
theorem rowOf_bits (r : Fin 32) (c : Fin 128) : rowOf (bits r c) = r.val := by
  show ((((r.val / 2 ^ 4 % 2) * 2 + r.val / 2 ^ 3 % 2) * 2 + r.val / 2 ^ 2 % 2) * 2 + r.val / 2 ^ 1 % 2) * 2 + r.val / 2 ^ 0 % 2 = _
  omega

/-- The lane is found again from the wires' values. -/
theorem laneOf_bits (r : Fin 32) (c : Fin 128) : laneOf (bits r c) = c.val := by
  show ((((((c.val / 2 ^ 6 % 2) * 2 + c.val / 2 ^ 5 % 2) * 2 + c.val / 2 ^ 4 % 2) * 2 + c.val / 2 ^ 3 % 2) * 2 + c.val / 2 ^ 2 % 2) * 2
    + c.val / 2 ^ 1 % 2) * 2 + c.val / 2 ^ 0 % 2 = _
  omega

/-- Positions and the wires' values are the same. -/
theorem bits_bijective : Function.Bijective fun x : Fin 32 × Fin 128 => bits x.1 x.2 := by
  rw [Fintype.bijective_iff_injective_and_card]
  refine ⟨fun x y h => ?_, by simp⟩
  refine Prod.ext (Fin.ext ?_) (Fin.ext ?_)
  · rw [← rowOf_bits x.1 x.2, ← rowOf_bits y.1 y.2]; exact congrArg rowOf h
  · rw [← laneOf_bits x.1 x.2, ← laneOf_bits y.1 y.2]; exact congrArg laneOf h

/-- All the wires are zero at position zero alone. -/
theorem bits_eq_zero (r : Fin 32) (c : Fin 128) : bits r c = 0 ↔ r = 0 ∧ c = 0 := by
  refine ⟨fun h => ⟨Fin.ext ?_, Fin.ext ?_⟩, ?_⟩
  · rw [← rowOf_bits r c, h]; rfl
  · rw [← laneOf_bits r c, h]; rfl
  · rintro ⟨rfl, rfl⟩
    funext q
    unfold bits
    split_ifs <;> exact Fin.ext (by simp)

/-- A sum over the wires' values is a sum over the rows and lanes. -/
theorem sum_bits (f : Wires → EReal) : ∑ r : Fin 32, ∑ c : Fin 128, f (bits r c) = ∑ b : Wires, f b := by
  rw [← Fintype.sum_prod_type' (f := fun r c => f (bits r c))]
  exact Function.Bijective.sum_comp bits_bijective f

end Cert.Sem
end
-- ==== Proof.KGate.lean ====
/- The kernel's gates at the ideal values: what a rotation of a tile reads, and that each gate of the kernel is the gate of
   the states a pair of tiles holds. -/
module

public import proofs.«01_k».proof.Proof.KDef
public import proofs.«01_k».proof.Proof.Bits
public import Idealize.ShloMosaic.Lib.ValueIdx
public import Idealize.ShloMosaic.Lib.Pipeline.Value
public import Idealize.ShloMosaic.PureOps.Ideal.Laws

@[expose] public section

set_option maxRecDepth 16384

noncomputable section

namespace Cert.KCircuit

open Idealize.ShloMosaic Idealize.ShloMosaic.TcCoe Idealize.ShloMosaic.ValueIdx Cert.KernelIdeal Cert.KernelIdeal.Gen
open Cert.Sem (Wires State angleGate bits rowUp laneUp rowWire laneWire bits_rowWire bits_laneWire bits_rowUp bits_laneUp)

/-- A tile moved up by `n` rows reads the row `n` after. -/
theorem rotRow_apply {α : Type} (n : ℕ) (hn : n ≤ 32) (x : S32x128.Idx → α) (r : Fin 32) (c : Fin 128) :
    rotRow n hn x (ix2 r c) = x (ix2 (rowUp n r) c) := by
  unfold rotRow
  by_cases h : r.val < 32 - n
  · refine (concatenate_pair_apply_left (t := S32x128) (s₁ := ⟨2, ![32 - n, 128]⟩) (s₂ := ⟨2, ![n, 128]⟩) 0 _ _ _ (ix2 r c) rfl
      (ix2 (⟨r.val, h⟩ : Fin (32 - n)) c) fun a => ?_).trans (extractStridedSlice_apply _ _ _ _ (ix2 (rowUp n r) c) fun a => ?_)
    · match a with
      | ⟨0, _⟩ => rfl
      | ⟨1, _⟩ => rfl
    · match a with
      | ⟨0, _⟩ => show (r.val + n) % 32 = n + r.val; omega
      | ⟨1, _⟩ => exact (Nat.zero_add _).symm
  · refine (concatenate_pair_apply_right (t := S32x128) (s₁ := ⟨2, ![32 - n, 128]⟩) (s₂ := ⟨2, ![n, 128]⟩) 0 _ _ _ (ix2 r c) rfl rfl
      (ix2 (⟨r.val - (32 - n), by omega⟩ : Fin n) c) (fun a ha => ?_) ?_).trans
      (extractStridedSlice_apply _ _ _ _ (ix2 (rowUp n r) c) fun a => ?_)
    · match a, ha with
      | ⟨0, _⟩, ha => exact absurd rfl ha
      | ⟨1, _⟩, _ => rfl
    · show r.val - (32 - n) + (32 - n) = r.val
      omega
    · match a with
      | ⟨0, _⟩ => show (r.val + n) % 32 = 0 + (r.val - (32 - n)); omega
      | ⟨1, _⟩ => exact (Nat.zero_add _).symm

/-- A tile moved left by `n` lanes reads the lane `n` after. -/
theorem rotLane_apply {α : Type} (n : ℕ) (hn : n ≤ 128) (x : S32x128.Idx → α) (r : Fin 32) (c : Fin 128) :
    rotLane n hn x (ix2 r c) = x (ix2 r (laneUp n c)) := by
  unfold rotLane
  by_cases h : c.val < 128 - n
  · refine (concatenate_pair_apply_left (t := S32x128) (s₁ := ⟨2, ![32, 128 - n]⟩) (s₂ := ⟨2, ![32, n]⟩) 1 _ _ _ (ix2 r c) rfl
      (ix2 r (⟨c.val, h⟩ : Fin (128 - n))) fun a => ?_).trans (extractStridedSlice_apply _ _ _ _ (ix2 r (laneUp n c)) fun a => ?_)
    · match a with
      | ⟨0, _⟩ => rfl
      | ⟨1, _⟩ => rfl
    · match a with
      | ⟨0, _⟩ => exact (Nat.zero_add _).symm
      | ⟨1, _⟩ => show (c.val + n) % 128 = n + c.val; omega
  · refine (concatenate_pair_apply_right (t := S32x128) (s₁ := ⟨2, ![32, 128 - n]⟩) (s₂ := ⟨2, ![32, n]⟩) 1 _ _ _ (ix2 r c) rfl rfl
      (ix2 r (⟨c.val - (128 - n), by omega⟩ : Fin n)) (fun a ha => ?_) ?_).trans
      (extractStridedSlice_apply _ _ _ _ (ix2 r (laneUp n c)) fun a => ?_)
    · match a, ha with
      | ⟨0, _⟩, _ => rfl
      | ⟨1, _⟩, ha => exact absurd rfl ha
    · show c.val - (128 - n) + (128 - n) = c.val
      omega
    · match a with
      | ⟨0, _⟩ => exact (Nat.zero_add _).symm
      | ⟨1, _⟩ => show (c.val + n) % 128 = 0 + (c.val - (128 - n)); omega

/-- One for true. -/
def flag (p : Prop) [Decidable p] : BitVec 1 := if p then 1#1 else 0#1

/-- Bit `j` of a row, as the kernel computes it from the words. -/
theorem flag_row : ∀ (j : Fin 5) (r : Fin 32),
    IntOp.cmpi .eq (IntOp.andi (IntOp.shrsi .vector (BitVec.ofNat 32 r.val) (BitVec.ofNat 32 j.val)) 1#32) 1#32
      = flag (r.val / 2 ^ j.val % 2 = 1) := by decide +kernel

/-- Bit `j` of a lane, as the kernel computes it from the words. -/
theorem flag_lane : ∀ (j : Fin 7) (c : Fin 128),
    IntOp.cmpi .eq (IntOp.andi (IntOp.shrsi .vector (BitVec.ofNat 32 c.val) (BitVec.ofNat 32 j.val)) 1#32) 1#32
      = flag (c.val / 2 ^ j.val % 2 = 1) := by decide +kernel

/-- Bit `j` of the row number is its wire. -/
theorem bitOf_row (j : Fin 5) (r : Fin 32) (c : Fin 128) :
    bitOf rowIdx (BitVec.ofNat 32 j.val) (ix2 r c) = flag (bits r c (rowWire j) = 1) := by
  have hc : bits r c (rowWire j) = 1 ↔ r.val / 2 ^ j.val % 2 = 1 := by rw [Fin.ext_iff, bits_rowWire]; rfl
  simp only [hc]
  rw [← flag_row j r]
  show IntOp.cmpi .eq (IntOp.andi (IntOp.shrsi _ (iota .tc S32x128 32 [0] iota_S32x128_d0_w32 (ix2 r c)) _) _) _ = _
  rw [iota_single_apply]
  rfl

/-- Bit `j` of the lane number is its wire. -/
theorem bitOf_lane (j : Fin 7) (r : Fin 32) (c : Fin 128) :
    bitOf laneIdx (BitVec.ofNat 32 j.val) (ix2 r c) = flag (bits r c (laneWire j) = 1) := by
  have hc : bits r c (laneWire j) = 1 ↔ c.val / 2 ^ j.val % 2 = 1 := by rw [Fin.ext_iff, bits_laneWire]; rfl
  simp only [hc]
  rw [← flag_lane j c]
  show IntOp.cmpi .eq (IntOp.andi (IntOp.shrsi _ (iota .tc S32x128 32 [1] iota_S32x128_d1_w32 (ix2 r c)) _) _) _ = _
  rw [iota_single_apply]
  rfl

/-- A selection by a flag is a choice by its condition. -/
theorem select_flag {α : Type} (p : Prop) [Decidable p] (x y : α) : Scalar.select (flag p) x y = if p then x else y := by
  unfold flag
  split <;> rfl

/-- The word of one half. -/
theorem ofBits_half : Ideal.ofBits .f32 0x3F000000#32 = ((1 / 2 : ℝ) : EReal) := by
  simp [Ideal.ofBits, Ideal.ieee]
  rw [← EReal.coe_mul]
  norm_num

/-- The kernel's half of an angle is half of it. -/
theorem half_eq (x : EReal) : half (F := Ideal) x = Cert.Sem.halfAngle x := by
  show x * Ideal.ofBits .f32 0x3F000000#32 = _
  rw [ofBits_half]
  rfl

/-- The kernel's negative of a number is its negative. -/
theorem neg_eq (x : EReal) : neg (F := Ideal) x = -x := by
  show Ideal.ofBits .f32 0x00000000#32 - x = _
  rw [Ideal.ofBits_zero_f32, sub_eq_add_neg, zero_add]

/-- The entries of a gate's matrix are those of the product of the rotations. -/
theorem entriesOf_eq (cx sx cy sy cz sz : EReal) :
    entriesOf (F := Ideal) cx sx cy sy cz sz =
      { r00 := Cert.Sem.rotRe cx sx cy sy cz sz 0 0, i00 := Cert.Sem.rotIm cx sx cy sy cz sz 0 0
        r01 := Cert.Sem.rotRe cx sx cy sy cz sz 0 1, i01 := Cert.Sem.rotIm cx sx cy sy cz sz 0 1
        r10 := Cert.Sem.rotRe cx sx cy sy cz sz 1 0, i10 := Cert.Sem.rotIm cx sx cy sy cz sz 1 0
        r11 := Cert.Sem.rotRe cx sx cy sy cz sz 1 1, i11 := Cert.Sem.rotIm cx sx cy sy cz sz 1 1 } := by
  have hR (a b c d : EReal) : cmulRe (F := Ideal) a b c d = a * c - b * d := rfl
  have hI (a b c d : EReal) : cmulIm (F := Ideal) a b c d = a * d + b * c := rfl
  have hM (a b : EReal) : Scalar.mulf (F := Ideal) (φ := .f32) a b = a * b := rfl
  unfold entriesOf
  simp only [hR, hI, hM, neg_eq, sub_eq_add_neg, neg_mul, mul_neg, neg_neg, ← mul_assoc]
  rfl

/-- A pair of tiles holds a state: its real and imaginary parts at every position's wires. -/
def Holds (st : Tile Ideal × Tile Ideal) (f : State) : Prop :=
  ∀ r c, st.1 (ix2 r c) = f 0 (bits r c) ∧ st.2 (ix2 r c) = f 1 (bits r c)

/-- A gate at one position, from the tiles and the partners there. -/
theorem gate_core (q : Fin 12) (t : Fin 3 → EReal) (f : State) (w : Wires) (b : IVec S32x128 1) (re im pre pim : Tile Ideal)
    (i : S32x128.Idx) (hb : b i = flag (w q = 1)) (hre : re i = f 0 w) (him : im i = f 1 w)
    (hpre : pre i = f 0 (Function.update w q (w q).rev)) (hpim : pim i = f 1 (Function.update w q (w q).rev)) :
    gateRe b (entries t) re im pre pim i = Cert.Sem.gate q (angleGate t) f 0 w ∧
      gateIm b (entries t) re im pre pim i = Cert.Sem.gate q (angleGate t) f 1 w := by
  have hE : entries (F := Ideal) t = entriesOf (F := Ideal) (Ideal.cos (Cert.Sem.halfAngle (t 0))) (Ideal.sin (Cert.Sem.halfAngle (t 0)))
      (Ideal.cos (Cert.Sem.halfAngle (t 1))) (Ideal.sin (Cert.Sem.halfAngle (t 1)))
      (Ideal.cos (Cert.Sem.halfAngle (t 2))) (Ideal.sin (Cert.Sem.halfAngle (t 2))) := by
    unfold entries
    rw [half_eq, half_eq, half_eq]
    rfl
  have hR (u : Entries Ideal) : gateRe b u re im pre pim i =
      ((Scalar.select (b i) u.r10 u.r00 * Scalar.select (b i) (pre i) (re i)
        - Scalar.select (b i) u.i10 u.i00 * Scalar.select (b i) (pim i) (im i))
        + Scalar.select (b i) u.r11 u.r01 * Scalar.select (b i) (re i) (pre i))
        - Scalar.select (b i) u.i11 u.i01 * Scalar.select (b i) (im i) (pim i) := rfl
  have hI (u : Entries Ideal) : gateIm b u re im pre pim i =
      ((Scalar.select (b i) u.r10 u.r00 * Scalar.select (b i) (pim i) (im i)
        + Scalar.select (b i) u.i10 u.i00 * Scalar.select (b i) (pre i) (re i))
        + Scalar.select (b i) u.r11 u.r01 * Scalar.select (b i) (im i) (pim i))
        + Scalar.select (b i) u.i11 u.i01 * Scalar.select (b i) (re i) (pre i) := rfl
  rw [hR, hI, hE, entriesOf_eq, hb, hre, him, hpre, hpim]
  simp only [select_flag, Cert.Sem.gate, angleGate, Fin.sum_univ_two]
  generalize Cert.Sem.rotRe _ _ _ _ _ _ = R
  generalize Cert.Sem.rotIm _ _ _ _ _ _ = I
  have h01 : w q = 0 ∨ w q = 1 := by
    rcases Fin.exists_fin_two.1 ⟨w q, rfl⟩ with h | h
    · exact .inl h
    · exact .inr h
  rcases h01 with h | h
  · have hu : Function.update w q 0 = w := by rw [← h]; exact Function.update_eq_self q w
    have hv : (Fin.rev 0 : Fin 2) = 1 := rfl
    simp only [h, hu, hv, Cert.Sem.gateOf, Fin.isValue, zero_ne_one, one_ne_zero, if_true, if_false, neg_mul, sub_eq_add_neg]
    exact ⟨by ac_rfl, by ac_rfl⟩
  · have hu : Function.update w q 1 = w := by rw [← h]; exact Function.update_eq_self q w
    have hv : (Fin.rev 1 : Fin 2) = 0 := rfl
    simp only [h, hu, hv, Cert.Sem.gateOf, Fin.isValue, zero_ne_one, one_ne_zero, if_true, if_false, neg_mul, sub_eq_add_neg]
    exact ⟨by ac_rfl, by ac_rfl⟩

/-- The partner over a row bit. -/
theorem partRow_apply (j : Fin 5) (hj : 2 ^ j.val ≤ 32) (x : Tile Ideal) (f : Wires → EReal)
    (hx : ∀ r c, x (ix2 r c) = f (bits r c)) (r : Fin 32) (c : Fin 128) :
    partRow (2 ^ j.val) hj (bitOf rowIdx (BitVec.ofNat 32 j.val)) x (ix2 r c)
      = f (Function.update (bits r c) (rowWire j) (bits r c (rowWire j)).rev) := by
  show Scalar.select (bitOf rowIdx (BitVec.ofNat 32 j.val) (ix2 r c)) (rotRow _ _ x (ix2 r c)) (rotRow _ _ x (ix2 r c)) = _
  rw [bitOf_row, select_flag, rotRow_apply, rotRow_apply, hx, hx, ← bits_rowUp]
  split <;> rfl

/-- The partner over a lane bit. -/
theorem partLane_apply (j : Fin 7) (hj : 2 ^ j.val ≤ 128) (x : Tile Ideal) (f : Wires → EReal)
    (hx : ∀ r c, x (ix2 r c) = f (bits r c)) (r : Fin 32) (c : Fin 128) :
    partLane (2 ^ j.val) hj (bitOf laneIdx (BitVec.ofNat 32 j.val)) x (ix2 r c)
      = f (Function.update (bits r c) (laneWire j) (bits r c (laneWire j)).rev) := by
  show Scalar.select (bitOf laneIdx (BitVec.ofNat 32 j.val) (ix2 r c)) (rotLane _ _ x (ix2 r c)) (rotLane _ _ x (ix2 r c)) = _
  rw [bitOf_lane, select_flag, rotLane_apply, rotLane_apply, hx, hx, ← bits_laneUp]
  split <;> rfl

/-- The kernel's gate on a row wire is the gate of the state. -/
theorem gateRow_holds (j : Fin 5) (hj : 2 ^ j.val ≤ 32) (t : Fin 3 → EReal) {st : Tile Ideal × Tile Ideal} {f : State}
    (h : Holds st f) : Holds (gateRow j.val hj t st) (Cert.Sem.gate (rowWire j) (angleGate t) f) := fun r c =>
  gate_core (rowWire j) t f (bits r c) _ _ _ _ _ _ (bitOf_row j r c) (h r c).1 (h r c).2
    (partRow_apply j hj _ (f 0) (fun r c => (h r c).1) r c) (partRow_apply j hj _ (f 1) (fun r c => (h r c).2) r c)

/-- The kernel's gate on a lane wire is the gate of the state. -/
theorem gateLane_holds (j : Fin 7) (hj : 2 ^ j.val ≤ 128) (t : Fin 3 → EReal) {st : Tile Ideal × Tile Ideal} {f : State}
    (h : Holds st f) : Holds (gateLane j.val hj t st) (Cert.Sem.gate (laneWire j) (angleGate t) f) := fun r c =>
  gate_core (laneWire j) t f (bits r c) _ _ _ _ _ _ (bitOf_lane j r c) (h r c).1 (h r c).2
    (partLane_apply j hj _ (f 0) (fun r c => (h r c).1) r c) (partLane_apply j hj _ (f 1) (fun r c => (h r c).2) r c)

/-- The twelve gates of a layer. -/
theorem gates_holds (t : Fin 12 → Fin 3 → EReal) {st : Tile Ideal × Tile Ideal} {f : State} (h : Holds st f) :
    Holds (gates t st) (Cert.Sem.gates (fun q => angleGate (t q)) f) :=
  gateLane_holds 0 _ _ <| gateLane_holds 1 _ _ <| gateLane_holds 2 _ _ <| gateLane_holds 3 _ _ <| gateLane_holds 4 _ _ <|
  gateLane_holds 5 _ _ <| gateLane_holds 6 _ _ <| gateRow_holds 0 _ _ <| gateRow_holds 1 _ _ <| gateRow_holds 2 _ _ <|
  gateRow_holds 3 _ _ <| gateRow_holds 4 _ _ h

end Cert.KCircuit
end
-- ==== Proof.KRing.lean ====
/- The kernel's ring of controlled flips, its first state and its three layers at the ideal values. -/
module

public import proofs.«01_k».proof.Proof.KGate
public import Idealize.ShloMosaic.Lib.Pointwise.Contract
public import Idealize.ShloMosaic.Lib.IdealHost

@[expose] public section

set_option maxRecDepth 16384

noncomputable section

namespace Cert.KCircuit

open Idealize.ShloMosaic hiding ix0 ix1 ix2 ix3 ix4 ix5 ix6
open Idealize.ShloMosaic.TcCoe Idealize.ShloMosaic.ValueIdx Cert.KernelIdeal Cert.KernelIdeal.Gen
open Cert.Sem (Wires State angleGate bits rowUp laneUp rowWire laneWire grayRow grayLane ringRow ringLane)

/-- A shift of a word to the right that keeps its sign. -/
def shr (x s : BitVec 32) : BitVec 32 := IntOp.shrsi .vector x s

/-- The row whose five prefix sums without carry are a given row. -/
theorem flag_permRow : ∀ k r : Fin 32,
    IntOp.cmpi .eq (BitVec.ofNat 32 r.val) (BitVec.ofNat 32 k.val ^^^ shr (BitVec.ofNat 32 k.val) 1#32
      ^^^ shr (BitVec.ofNat 32 k.val) 2#32 ^^^ shr (BitVec.ofNat 32 k.val) 3#32 ^^^ shr (BitVec.ofNat 32 k.val) 4#32)
      = flag (k = grayRow r) := by decide +kernel

/-- The same of lanes. -/
theorem flag_permLane : ∀ k c : Fin 128,
    IntOp.cmpi .eq (BitVec.ofNat 32 c.val) (BitVec.ofNat 32 k.val ^^^ shr (BitVec.ofNat 32 k.val) 1#32
      ^^^ shr (BitVec.ofNat 32 k.val) 2#32 ^^^ shr (BitVec.ofNat 32 k.val) 3#32 ^^^ shr (BitVec.ofNat 32 k.val) 4#32
      ^^^ shr (BitVec.ofNat 32 k.val) 5#32 ^^^ shr (BitVec.ofNat 32 k.val) 6#32)
      = flag (k = grayLane c) := by decide +kernel

/-- A flag as a number. -/
theorem sitofp_flag (p : Prop) [Decidable p] :
    (((BitVec.setWidth 32 (flag p)).toInt : ℝ) : EReal) = if p then 1 else 0 := by
  unfold flag
  split
  · rw [show (BitVec.setWidth 32 (1#1)).toInt = 1 from by decide]; simp
  · rw [show (BitVec.setWidth 32 (0#1)).toInt = 0 from by decide]; simp

/-- The matrix of the rows' permutation. -/
theorem permRow_apply (k r : Fin 32) : permRow (F := Ideal) (ix2 k r) = if k = grayRow r then 1 else 0 := by
  rw [← sitofp_flag, ← flag_permRow]
  show (((BitVec.setWidth 32 (IntOp.cmpi .eq (iota .tc S32x32 32 [1] iota_S32x32_d1_w32 (ix2 k r))
    (prefix5 (iota .tc S32x32 32 [0] iota_S32x32_d0_w32) (ix2 k r)))).toInt : ℝ) : EReal) = _
  rw [iota_single_apply]
  unfold prefix5
  show (((BitVec.setWidth 32 (IntOp.cmpi .eq _ (iota .tc S32x32 32 [0] iota_S32x32_d0_w32 (ix2 k r)
    ^^^ shr (iota .tc S32x32 32 [0] iota_S32x32_d0_w32 (ix2 k r)) 1#32
    ^^^ shr (iota .tc S32x32 32 [0] iota_S32x32_d0_w32 (ix2 k r)) 2#32
    ^^^ shr (iota .tc S32x32 32 [0] iota_S32x32_d0_w32 (ix2 k r)) 3#32
    ^^^ shr (iota .tc S32x32 32 [0] iota_S32x32_d0_w32 (ix2 k r)) 4#32))).toInt : ℝ) : EReal) = _
  rw [iota_single_apply]

/-- The matrix of the lanes' permutation. -/
theorem permLane_apply (k c : Fin 128) : permLane (F := Ideal) (ix2 k c) = if k = grayLane c then 1 else 0 := by
  rw [← sitofp_flag, ← flag_permLane]
  show (((BitVec.setWidth 32 (IntOp.cmpi .eq (iota .tc S128x128 32 [1] iota_S128x128_d1_w32 (ix2 k c))
    (prefix7 (iota .tc S128x128 32 [0] iota_S128x128_d0_w32) (ix2 k c)))).toInt : ℝ) : EReal) = _
  rw [iota_single_apply]
  unfold prefix7
  show (((BitVec.setWidth 32 (IntOp.cmpi .eq _ (iota .tc S128x128 32 [0] iota_S128x128_d0_w32 (ix2 k c)
    ^^^ shr (iota .tc S128x128 32 [0] iota_S128x128_d0_w32 (ix2 k c)) 1#32
    ^^^ shr (iota .tc S128x128 32 [0] iota_S128x128_d0_w32 (ix2 k c)) 2#32
    ^^^ shr (iota .tc S128x128 32 [0] iota_S128x128_d0_w32 (ix2 k c)) 3#32
    ^^^ shr (iota .tc S128x128 32 [0] iota_S128x128_d0_w32 (ix2 k c)) 4#32
    ^^^ shr (iota .tc S128x128 32 [0] iota_S128x128_d0_w32 (ix2 k c)) 5#32
    ^^^ shr (iota .tc S128x128 32 [0] iota_S128x128_d0_w32 (ix2 k c)) 6#32))).toInt : ℝ) : EReal) = _
  rw [iota_single_apply]

/-- A product contracted along one axis into zeros, the two operands' indices named. -/
theorem matmul_eq {sl sr so : Shape} (D : DotDims sl sr so) {a : Fin sl.rank} (hc : D.lhsContracting = [a]) {K : ℕ}
    (hK : sl.size a = K) (x : FVec Ideal sl .f32) (y : FVec Ideal sr .f32) (j : so.Idx) (L : Fin K → sl.Idx) (R : Fin K → sr.Idx)
    (hl : ∀ k b, (D.lhsIdx j (D.contrIdx₁ hc hK k) b).val = (L k b).val)
    (hr : ∀ k b, (D.rhsIdx j (D.contrIdx₁ hc hK k) b).val = (R k b).val) :
    matmul D none x y (constant so .f32 0x00000000#32) j = ∑ k : Fin K, x (L k) * y (R k) := by
  refine (Ideal.matmul_constant_zero_apply D none x y j).trans ((D.sum_contr₁ hc hK _).trans ?_)
  refine Finset.sum_congr rfl fun k _ => ?_
  rw [show D.lhsIdx j (D.contrIdx₁ hc hK k) = L k from funext fun b => Fin.ext (hl k b),
    show D.rhsIdx j (D.contrIdx₁ hc hK k) = R k from funext fun b => Fin.ext (hr k b)]

/-- The rows' permutation. -/
theorem ringRows_apply (x : Tile Ideal) (r : Fin 32) (c : Fin 128) : ringRows x (ix2 r c) = x (ix2 (grayRow r) c) := by
  refine (matmul_eq dot_S32x32_S32x128_S32x128_0_0_1_1_n_n (K := 32) rfl rfl _ _ _ (fun k => ix2 k r) (fun k => ix2 k c)
    (fun k b => by fin_cases b <;> rfl) (fun k b => by fin_cases b <;> rfl)).trans ?_
  simp only [permRow_apply]
  rw [Finset.sum_eq_single (grayRow r)]
  · rw [if_pos rfl, one_mul]
  · intro k _ hk
    rw [if_neg hk, zero_mul]
  · intro h
    exact absurd (Finset.mem_univ _) h

/-- The lanes' permutation. -/
theorem ringLanes_apply (x : Tile Ideal) (r : Fin 32) (c : Fin 128) : ringLanes x (ix2 r c) = x (ix2 r (grayLane c)) := by
  refine (matmul_eq dot_S32x128_S128x128_S32x128_1_0_0_1_n_n (K := 128) rfl rfl _ _ _ (fun k => ix2 r k) (fun k => ix2 k c)
    (fun k b => by fin_cases b <;> rfl) (fun k b => by fin_cases b <;> rfl)).trans ?_
  simp only [permLane_apply]
  rw [Finset.sum_eq_single (grayLane c)]
  · rw [if_pos rfl, mul_one]
  · intro k _ hk
    rw [if_neg hk, mul_zero]
  · intro h
    exact absurd (Finset.mem_univ _) h

/-- The last row bit is one. -/
theorem bitOf_row0 (r : Fin 32) (c : Fin 128) : bitOf rowIdx 0#32 (ix2 r c) = flag (r.val % 2 = 1) := by
  have hc : bits r c (rowWire 0) = 1 ↔ r.val % 2 = 1 := by
    rw [Fin.ext_iff, Cert.Sem.bits_rowWire]
    show r.val / 1 % 2 = 1 ↔ _
    rw [Nat.div_one]
  exact (bitOf_row 0 r c).trans (by simp only [hc])

/-- The last lane bit is one. -/
theorem bitOf_lane0 (r : Fin 32) (c : Fin 128) : bitOf laneIdx 0#32 (ix2 r c) = flag (c.val % 2 = 1) := by
  have hc : bits r c (laneWire 0) = 1 ↔ c.val % 2 = 1 := by
    rw [Fin.ext_iff, Cert.Sem.bits_laneWire]
    show c.val / 1 % 2 = 1 ↔ _
    rw [Nat.div_one]
  exact (bitOf_lane 0 r c).trans (by simp only [hc])

/-- The lanes' half turn. -/
theorem ringTurn_apply (x : Tile Ideal) (r : Fin 32) (c : Fin 128) :
    ringTurn x (ix2 r c) = x (ix2 r (if r.val % 2 = 1 then laneUp 64 c else c)) := by
  show Scalar.select (bitOf rowIdx 0#32 (ix2 r c)) (rotLane 64 _ x (ix2 r c)) (x (ix2 r c)) = _
  rw [bitOf_row0, select_flag, rotLane_apply]
  split <;> rfl

/-- The rows' half turn. -/
theorem ringBack_apply (x : Tile Ideal) (r : Fin 32) (c : Fin 128) : ringBack x (ix2 r c) = x (ix2 (ringRow r c) c) := by
  show Scalar.select (bitOf laneIdx 0#32 (ix2 r c)) (rotRow 16 _ x (ix2 r c)) (x (ix2 r c)) = _
  rw [bitOf_lane0, select_flag, rotRow_apply]
  unfold ringRow
  split <;> rfl

/-- The kernel's ring of a tile reads the tile where the ring of controlled flips reads the state. -/
theorem ring_apply (x : Tile Ideal) (f : Wires → EReal) (hx : ∀ r c, x (ix2 r c) = f (bits r c)) (r : Fin 32) (c : Fin 128) :
    ring x (ix2 r c) = f (Cert.Sem.ringAt (bits r c)) := by
  unfold ring
  rw [ringBack_apply, ringLanes_apply, ringTurn_apply, ringRows_apply, hx, ← Cert.Sem.bits_ring]
  rfl

/-- The ring of a pair of tiles. -/
theorem ring_holds {st : Tile Ideal × Tile Ideal} {f : State} (h : Holds st f) :
    Holds (ring st.1, ring st.2) (Cert.Sem.ring f) := fun r c =>
  ⟨(ring_apply _ (f 0) (fun r c => (h r c).1) r c).trans (Cert.Sem.ring_eq f 0 _).symm,
    (ring_apply _ (f 1) (fun r c => (h r c).2) r c).trans (Cert.Sem.ring_eq f 1 _).symm⟩

/-- The words of a row and a lane add to zero at position zero alone. -/
theorem flag_start : ∀ (r : Fin 32) (c : Fin 128),
    IntOp.cmpi .eq (IntOp.addi (BitVec.ofNat 32 r.val) (BitVec.ofNat 32 c.val)) 0#32 = flag (r = 0 ∧ c = 0) := by decide +kernel

/-- The first state. -/
theorem start_holds : Holds (start (F := Ideal)) Cert.Sem.start := by
  intro r c
  refine ⟨?_, ?_⟩
  · show Scalar.select (IntOp.cmpi .eq (IntOp.addi (iota .tc S32x128 32 [0] iota_S32x128_d0_w32 (ix2 r c))
      (iota .tc S32x128 32 [1] iota_S32x128_d1_w32 (ix2 r c))) 0#32) (Ideal.ofBits .f32 0x3F800000#32) (Ideal.ofBits .f32 0x00000000#32) = _
    rw [iota_single_apply, iota_single_apply, Ideal.ofBits_one_f32, Ideal.ofBits_zero_f32]
    refine (congrArg (fun b => Scalar.select b (1 : EReal) 0) (flag_start r c)).trans ?_
    rw [select_flag]
    unfold Cert.Sem.start
    simp only [Cert.Sem.bits_eq_zero, true_and]
  · show Ideal.ofBits .f32 0x00000000#32 = _
    rw [Ideal.ofBits_zero_f32]
    unfold Cert.Sem.start
    rw [if_neg (fun h => absurd h.1 (by decide))]

/-- The kernel's last pair of tiles holds the last state. -/
theorem final_holds (t : Fin 3 → Fin 12 → Fin 3 → EReal) :
    Holds (final (F := Ideal) t) (Cert.Sem.final fun l q => angleGate (t l q)) :=
  ring_holds (gates_holds (t 2) (ring_holds (gates_holds (t 1) (ring_holds (gates_holds (t 0) start_holds)))))

/-- The kernel's probabilities. -/
theorem probs_apply (t : Fin 3 → Fin 12 → Fin 3 → EReal) (r : Fin 32) (c : Fin 128) :
    probs (final (F := Ideal) t) (ix2 r c) = Cert.Sem.prob (Cert.Sem.final fun l q => angleGate (t l q)) (bits r c) := by
  have h := final_holds t r c
  generalize final (F := Ideal) t = st at h
  show st.1 (ix2 r c) * st.1 (ix2 r c) + st.2 (ix2 r c) * st.2 (ix2 r c) = _
  rw [h.1, h.2]
  rfl

end Cert.KCircuit
end
-- ==== Proof.KOut.lean ====
/- What the kernel's body leaves at a grid point, and what the result array holds when the grid is done. -/
module

public import proofs.«01_k».proof.Proof.KDef
public import proofs.«01_k».proof.Proof.Gen.KernelIdeal.Run
public import proofs.«01_k».proof.Proof.Gen.KernelIdeal.Read
public import Idealize.ShloMosaic.Lib.VecWindow
public import Idealize.ShloMosaic.Lib.Pipeline.Value
public import Idealize.ShloMosaic.Lib.ValueIdx
public import Idealize.ShloMosaic.Lib.Pipeline.ValueKit.Tiles

@[expose] public section

set_option maxRecDepth 16384

noncomputable section

namespace Cert.KCircuit

open Idealize.ShloMosaic Idealize.ShloMosaic.TcCoe Idealize.ShloMosaic.ValueIdx Cert.KernelIdeal Cert.KernelIdeal.Gen

variable {F : FTy → Type} [FloatOps F]

/-- The tile the first grid point keeps, from the five operands. -/
def tile (x0 : Vec F S3x3x12 .f32) (x1 : Vec F S12x32 .f32) (x2 : Vec F S1x32 .f32) (x3 : Vec F S16x32 .f32)
    (x4 : Vec F S1x16 .f32) : Tile F :=
  kept (pixels (acc (probs (final fun l q i => x0 (ix3 l i q))) (fun q j => x1 (ix2 q (j 1))) x2) x3 x4)

/-- A loaded angle is the operand's entry. -/
theorem angle_eq (arg3 : Memref sig .tc .smem S3x3x12 .f32) (harg3 : arg3.IsWhole) (x0 : Vec F S3x3x12 .f32) :
    angle arg3 harg3 x0 = fun l q i => x0 (ix3 l i q) := by
  funext l q i
  unfold angle
  rw [View.readAt_eq_ld, harg3.read_unread]
  refine View.ld_unit_apply_of _ _ _ _ _ _ fun a => ?_
  match a with
  | ⟨0, _⟩ => rfl
  | ⟨1, _⟩ => rfl
  | ⟨2, _⟩ => rfl

/-- A loaded row of weights is the operand's row. -/
theorem row_eq (arg4 : Memref sig .tc .vmem S12x32 .f32) (harg4 : arg4.IsWhole) (x1 : Vec F S12x32 .f32) :
    row arg4 harg4 x1 = fun q j => x1 (ix2 q (j 1)) := by
  funext q j
  unfold row
  rw [View.readAt_eq_ld, harg4.read_unread]
  refine View.ld_unit_apply_of _ _ _ _ _ _ fun a => ?_
  match a with
  | ⟨0, _⟩ =>
    have h : (j 0 : ℕ) < 1 := (j 0).isLt
    show q.val = q.val + (j 0 : ℕ)
    omega
  | ⟨1, _⟩ => exact (Nat.zero_add _).symm

/-- Two zeros are zero everywhere. -/
theorem off2 : (![0, 0] : Fin 2 → ℕ) = fun _ => 0 := by
  funext a
  match a with
  | ⟨0, _⟩ => rfl
  | ⟨1, _⟩ => rfl

/-- Three zeros are zero everywhere. -/
theorem off3 : (![0, 0, 0] : Fin 3 → ℕ) = fun _ => 0 := by
  funext a
  match a with
  | ⟨0, _⟩ => rfl
  | ⟨1, _⟩ => rfl
  | ⟨2, _⟩ => rfl

section Point

variable (c : Dev nD) (i : grid0.Coords)
  (arg3 : Memref sig .tc .smem S3x3x12 .f32) (harg3 : arg3.IsWhole)
  (arg4 : Memref sig .tc .vmem S12x32 .f32) (harg4 : arg4.IsWhole)
  (arg5 : Memref sig .tc .vmem S1x32 .f32) (harg5 : arg5.IsWhole)
  (arg6 : Memref sig .tc .vmem S16x32 .f32) (harg6 : arg6.IsWhole)
  (arg7 : Memref sig .tc .vmem S1x16 .f32) (harg7 : arg7.IsWhole)
  (arg8 : Memref sig .tc .vmem S2048x8x128 .f32) (harg8 : arg8.IsWhole)
  (arg9 : Memref sig .tc .vmem S32x128 .f32) (harg9 : arg9.IsWhole)
  (x0 : Vec F S3x3x12 .f32) (x1 : Vec F S12x32 .f32) (x2 : Vec F S1x32 .f32) (x3 : Vec F S16x32 .f32)
  (x4 : Vec F S1x16 .f32)

/-- The run's store of the tile, as the definitions of this file over the loads. -/
theorem stores_eq : kernelRun0_A.sl.HS0_1 c arg3 harg3 arg4 harg4 arg5 harg5 arg6 harg6 arg7 harg7 x0 x1 x2 x3 x4 =
    [⟨Rect.unit ![0, 0] S32x128.size inb_S32x128_S32x128_0_0,
      kept (pixels (acc (probs (final (angle arg3 harg3 x0))) (row arg4 harg4 x1)
        (arg5.view.readAt (Elt F) (Rect.unit ![0, 0] S1x32.size inb_S1x32_S1x32_0_0).toLoadRect (harg5.unread x2)))
        (arg6.view.readAt (Elt F) (Rect.unit ![0, 0] S16x32.size inb_S16x32_S16x32_0_0).toLoadRect (harg6.unread x3))
        (arg7.view.readAt (Elt F) (Rect.unit ![0, 0] S1x16.size inb_S1x16_S1x16_0_0).toLoadRect (harg7.unread x4)))⟩] := rfl

/-- The run's store is of the tile. -/
theorem stores_tile : kernelRun0_A.sl.HS0_1 c arg3 harg3 arg4 harg4 arg5 harg5 arg6 harg6 arg7 harg7 x0 x1 x2 x3 x4 =
    [⟨Rect.unit ![0, 0] S32x128.size inb_S32x128_S32x128_0_0, tile x0 x1 x2 x3 x4⟩] := by
  rw [stores_eq, angle_eq, row_eq]
  simp only [View.readAt_eq_ld, harg5.read_unread, harg6.read_unread, harg7.read_unread]
  rw [View.ld_unit_zero (S := S1x32) off2, View.ld_unit_zero (S := S16x32) off2, View.ld_unit_zero (S := S1x16) off2]
  rfl

/-- The block written at a grid point, from the tile kept: eight rows of it, repeated. -/
def block (i : grid0.Coords) (k : Tile F) : Vec F S2048x8x128 .f32 :=
  k0_pay2 (View.ld (Val := Elt F) (e' := .f32) k (Rect.unit (s := S32x128) (k0_off1 i) S8x128.size (k0_off1_inb i)))

/-- A first point keeps the tile. -/
theorem sout_A (hc0) : sout0_A_0 c i arg3 harg3 arg4 harg4 arg5 harg5 arg6 harg6 arg7 harg7 arg8 harg8 arg9 harg9 hc0
    x0 x1 x2 x3 x4 = tile x0 x1 x2 x3 x4 := by
  unfold sout0_A_0 kernelRun0_A
  dsimp only
  rw [stores_tile]
  exact View.read_writes_full _ _ _ _ _

/-- A first point writes the tile's rows. -/
theorem out_A (hc0) : out0_A_5 c i arg3 harg3 arg4 harg4 arg5 harg5 arg6 harg6 arg7 harg7 arg8 harg8 arg9 harg9 hc0
    x0 x1 x2 x3 x4 = block i (tile x0 x1 x2 x3 x4) := by
  unfold out0_A_5 kernelRun0_A
  dsimp only
  refine (View.read_writes_full (s := S2048x8x128) VO0_5 _ (by intro a; rw [off3]; exact (Nat.zero_add _).le) _ []).trans ?_
  unfold block kernelRun0_A.sl.v7
  rw [stores_tile, View.readAt_eq_ld]
  congr 2
  exact View.read_writes_full _ _ _ _ _

/-- Another point writes the kept tile's rows. -/
theorem out_B (hc0) (k : Tile F) : out0_B_5 c i arg3 harg3 arg4 harg4 arg5 harg5 arg6 harg6 arg7 harg7 arg8 harg8 arg9 harg9
    hc0 x0 x1 x2 x3 x4 k = block i k := by
  unfold out0_B_5 kernelRun0_B
  dsimp only
  refine (View.read_writes_full (s := S2048x8x128) VO0_5 _ (by intro a; rw [off3]; exact (Nat.zero_add _).le) _ []).trans ?_
  unfold block
  rw [View.readAt_eq_ld, harg9.read_unread]

end Point

section Array

variable (m : (ℓ : Loc nD τ sig) → Buf (Elt F) ℓ) (c : Dev nD)

/-- The angles the grid reads. -/
abbrev opAngles : Vec F S3x3x12 .f32 := V m c main_v0
/-- The first layer's weights the grid reads. -/
abbrev opW1 : Vec F S12x32 .f32 := V m c main_v1
/-- The first layer's offsets the grid reads. -/
abbrev opB1 : Vec F S1x32 .f32 := V m c main_v2
/-- The second layer's weights the grid reads. -/
abbrev opW2 : Vec F S16x32 .f32 := V m c main_arg4
/-- The second layer's offsets the grid reads. -/
abbrev opB2 : Vec F S1x16 .f32 := V m c main_v3

/-- The tile every grid point writes from. -/
abbrev gridTile : Tile F := tile (opAngles m c) (opW1 m c) (opB1 m c) (opW2 m c) (opB2 m c)

/-- Every grid point reads all the angles. -/
theorem iblk0 (t : Fin cfg0.N) : iblk m c 0 t = opAngles m c := by
  have hz : (fun a => win0_0.index t a * main_v0.ty.shape.size a) = fun _ => 0 := by
    funext a
    match a with
    | ⟨0, _⟩ => exact Nat.zero_mul _
    | ⟨1, _⟩ => exact Nat.zero_mul _
    | ⟨2, _⟩ => exact Nat.zero_mul _
  exact Memref.read_access_unit_zero (Elt F) main_v0 hz (fun a => by rw [congrFun hz a]; exact (Nat.zero_add _).le) _

/-- Every grid point reads all the first layer's weights. -/
theorem iblk1 (t : Fin cfg0.N) : iblk m c 1 t = opW1 m c := by
  have hz : (fun a => win0_1.index t a * main_v1.ty.shape.size a) = fun _ => 0 := by
    funext a
    match a with
    | ⟨0, _⟩ => exact Nat.zero_mul _
    | ⟨1, _⟩ => exact Nat.zero_mul _
  exact Memref.read_access_unit_zero (Elt F) main_v1 hz (fun a => by rw [congrFun hz a]; exact (Nat.zero_add _).le) _

/-- Every grid point reads all the first layer's offsets. -/
theorem iblk2 (t : Fin cfg0.N) : iblk m c 2 t = opB1 m c := by
  have hz : (fun a => win0_2.index t a * main_v2.ty.shape.size a) = fun _ => 0 := by
    funext a
    match a with
    | ⟨0, _⟩ => exact Nat.zero_mul _
    | ⟨1, _⟩ => exact Nat.zero_mul _
  exact Memref.read_access_unit_zero (Elt F) main_v2 hz (fun a => by rw [congrFun hz a]; exact (Nat.zero_add _).le) _

/-- Every grid point reads all the second layer's weights. -/
theorem iblk3 (t : Fin cfg0.N) : iblk m c 3 t = opW2 m c := by
  have hz : (fun a => win0_3.index t a * main_arg4.ty.shape.size a) = fun _ => 0 := by
    funext a
    match a with
    | ⟨0, _⟩ => exact Nat.zero_mul _
    | ⟨1, _⟩ => exact Nat.zero_mul _
  exact Memref.read_access_unit_zero (Elt F) main_arg4 hz (fun a => by rw [congrFun hz a]; exact (Nat.zero_add _).le) _

/-- Every grid point reads all the second layer's offsets. -/
theorem iblk4 (t : Fin cfg0.N) : iblk m c 4 t = opB2 m c := by
  have hz : (fun a => win0_4.index t a * main_v3.ty.shape.size a) = fun _ => 0 := by
    funext a
    match a with
    | ⟨0, _⟩ => exact Nat.zero_mul _
    | ⟨1, _⟩ => exact Nat.zero_mul _
  exact Memref.read_access_unit_zero (Elt F) main_v3 hz (fun a => by rw [congrFun hz a]; exact (Nat.zero_add _).le) _

/-- After every point the kept tile is the same one, and the block written is its rows. -/
theorem outsAt_eq : ∀ (n : ℕ) (hn : n < cfg0.N),
    outsAt0 m c n hn = (block (grid0.coords ⟨n, hn⟩) (gridTile m c), gridTile m c) := by
  intro n
  induction n with
  | zero =>
    intro hn
    rw [show outsAt0 m c 0 hn = _ from outsAt0_A m c ⟨0, hn⟩ rfl, out_A, sout_A, iblk0, iblk1, iblk2, iblk3, iblk4]
  | succ n ih =>
    intro hn
    by_cases h : (n + 1) % 4 = 0
    · rw [show outsAt0 m c (n + 1) hn = _ from outsAt0_A m c ⟨n + 1, hn⟩ h, out_A, sout_A, iblk0, iblk1, iblk2, iblk3, iblk4]
    · rw [show outsAt0 m c (n + 1) hn = _ from outsAt0_B m c ⟨n + 1, hn⟩ h, out_B]
      show (block _ (outsAt0 m c n _).2, (outsAt0 m c n _).2) = _
      rw [ih]

/-- The result array of the grid: entry `(b, s, l)` is the tile's entry in row `8 (b / 4096) + s`, lane `l`. -/
def gridOut : Vec F S16384x8x128 .f32 := fun j =>
  gridTile m c (ix2 ⟨8 * ((j 0 : ℕ) / 4096) + (j 1 : ℕ), by
    have h0 : (j 0 : ℕ) < 16384 := (j 0).isLt
    have h1 : (j 1 : ℕ) < 8 := (j 1).isLt
    omega⟩ (j 2))

/-- Where each grid point reads and where it writes. -/
theorem point_facts : ∀ t : Fin grid0.N, win0_5.index t 0 = 2 * (grid0.coords t 1 : ℕ) + (grid0.coords t 0 : ℕ) ∧
    k0_off1 (grid0.coords t) 0 = 8 * (grid0.coords t 1 : ℕ) := by decide +kernel

/-- Every block of the result array is some point's. -/
theorem point_of : ∀ b : Fin 8, ∃ t : Fin grid0.N, win0_5.index t 0 = b.val := by decide +kernel

/-- A block's entry is the tile's. -/
theorem block_apply (i : grid0.Coords) (k : Tile F) (b : Fin 2048) (s : Fin 8) (l : Fin 128) (r : Fin 32)
    (hr : r.val = k0_off1 i 0 + s.val) : block i k (ix3 b s l) = k (ix2 r l) := by
  unfold block k0_pay2
  dsimp only
  refine (broadcastTo_apply _ _ (ix3 b s l) (ix3 (0 : Fin 1) s l) (fun a => by
    match a with
    | ⟨0, _⟩ => rfl
    | ⟨1, _⟩ => rfl
    | ⟨2, _⟩ => rfl)).trans ?_
  rw [shapeCast_self]
  refine (shapeCast_apply _ _ _ (ix2 s l) (by
      rw [Shape.rowMajor_val_two, Shape.rowMajor_val_three]
      show s.val * 128 + l.val = (0 * 8 + s.val) * 128 + l.val
      omega)).trans ?_
  refine View.ld_unit_apply_of _ _ _ _ _ _ fun a => ?_
  match a with
  | ⟨0, _⟩ => exact hr
  | ⟨1, _⟩ => exact (Nat.zero_add _).symm

/-- What a point writes back is its block of the result array. -/
theorem flushed_eq (t : Fin cfg0.N) (hf : (cfg0.win 5).flush t = true) :
    (dats m 0 c).flushed 5 t = ((cfg0.win 5).blk t).view.read (Elt F) (gridOut m c) := by
  show (cfg0.win 5).cut (grid0.coords t) ((dats m 0 c).after 5 t) = _
  rw [after0_5, outsAt_eq]
  funext y
  obtain ⟨h5, ho⟩ := point_facts t
  have hg : (grid0.coords t 0 : ℕ) < 2 := (grid0.coords t 0).isLt
  have hi : (grid0.coords t 1 : ℕ) < 4 := (grid0.coords t 1).isLt
  have e0 : ((win0_5.rect t).emb y 0 : ℕ) = win0_5.index t 0 * 2048 + (y 0 : ℕ) := win0_5.rect_emb_val t y 0
  have e1 : ((win0_5.rect t).emb y 1 : ℕ) = 0 * 8 + (y 1 : ℕ) := win0_5.rect_emb_val t y 1
  have e2 : ((win0_5.rect t).emb y 2 : ℕ) = 0 * 128 + (y 2 : ℕ) := win0_5.rect_emb_val t y 2
  have h0 : (y 0 : ℕ) < 2048 := (y 0).isLt
  have h1 : (y 1 : ℕ) < 8 := (y 1).isLt
  show block (grid0.coords t) (gridTile m c) y = gridOut m c ((win0_5.rect t).emb y)
  rw [show block (grid0.coords t) (gridTile m c) y = _ from
    (congrArg _ (eq_ix3 (n0 := 2048) (n1 := 8) (n2 := 128) y)).trans
      (block_apply _ _ _ _ _ ⟨8 * (grid0.coords t 1 : ℕ) + (y 1 : ℕ), by omega⟩ (by rw [ho]))]
  unfold gridOut
  congr 1
  refine Shape.idx_ext₂ ?_ ?_
  · show 8 * (grid0.coords t 1 : ℕ) + (y 1 : ℕ) =
      8 * (((win0_5.rect t).emb y 0 : ℕ) / 4096) + ((win0_5.rect t).emb y 1 : ℕ)
    rw [e0, e1, h5]
    omega
  · show (y 2 : ℕ) = ((win0_5.rect t).emb y 2 : ℕ)
    rw [e2]
    omega

/-- When the grid is done the result array holds the tile's rows. -/
theorem final_out : (dats m 0 c).arrAt 5 cfg0.N = gridOut m c :=
  (dats m 0 c).arrAt_eq_of_cover 5 (gridOut m c) (flushed_eq m c) fun i => by
    have h0 : (i 0 : ℕ) < 16384 := (i 0).isLt
    have h1 : (i 1 : ℕ) < 8 := (i 1).isLt
    have h2 : (i 2 : ℕ) < 128 := (i 2).isLt
    obtain ⟨t, ht⟩ := point_of ⟨(i 0 : ℕ) / 2048, by omega⟩
    refine ⟨t, flush0_5 t, ?_⟩
    show i ∈ ((View.whole main_v4).slice (win0_5.rect t)).set
    rw [View.set_slice_whole, Rect.mem_set_unit]
    intro a
    match a with
    | ⟨0, _⟩ =>
      show win0_5.index t 0 * 2048 ≤ (i 0 : ℕ) ∧ (i 0 : ℕ) < win0_5.index t 0 * 2048 + 2048
      rw [ht]
      show (i 0 : ℕ) / 2048 * 2048 ≤ (i 0 : ℕ) ∧ (i 0 : ℕ) < (i 0 : ℕ) / 2048 * 2048 + 2048
      omega
    | ⟨1, _⟩ =>
      show 0 * 8 ≤ (i 1 : ℕ) ∧ (i 1 : ℕ) < 0 * 8 + 8
      omega
    | ⟨2, _⟩ =>
      show 0 * 128 ≤ (i 2 : ℕ) ∧ (i 2 : ℕ) < 0 * 128 + 128
      omega

/-- The row of the tile that the last three rearrangements read for image `x`, row `d` and column `r`. -/
theorem row_pos (x z d r : ℕ) (hx : x < 1048576) (hz : z < 1) (hd : d < 4) (hr : r < 4) :
    (8 * (((((((x * 1 + z) * 4 + d) * 4 + r) / 4 % 4 * 8192 + (((x * 1 + z) * 4 + d) * 4 + r) / 2048) * 4 + (((x * 1 + z) * 4 + d) * 4 + r) % 4) * 128 + (((x * 1 + z) * 4 + d) * 4 + r) / 16 % 128) / 1024 / 4096) + ((((((x * 1 + z) * 4 + d) * 4 + r) / 4 % 4 * 8192 + (((x * 1 + z) * 4 + d) * 4 + r) / 2048) * 4 + (((x * 1 + z) * 4 + d) * 4 + r) % 4) * 128 + (((x * 1 + z) * 4 + d) * 4 + r) / 16 % 128) / 128 % 8) / 8 = d ∧
    (8 * (((((((x * 1 + z) * 4 + d) * 4 + r) / 4 % 4 * 8192 + (((x * 1 + z) * 4 + d) * 4 + r) / 2048) * 4 + (((x * 1 + z) * 4 + d) * 4 + r) % 4) * 128 + (((x * 1 + z) * 4 + d) * 4 + r) / 16 % 128) / 1024 / 4096) + ((((((x * 1 + z) * 4 + d) * 4 + r) / 4 % 4 * 8192 + (((x * 1 + z) * 4 + d) * 4 + r) / 2048) * 4 + (((x * 1 + z) * 4 + d) * 4 + r) % 4) * 128 + (((x * 1 + z) * 4 + d) * 4 + r) / 16 % 128) / 128 % 8) % 4 = r := by
  obtain rfl : z = 0 := by omega
  have e1 : ((x * 1 + 0) * 4 + d) * 4 + r = 16 * x + (4 * d + r) := by ring
  rw [e1]
  have a1 : (16 * x + (4 * d + r)) / 4 % 4 = d := by omega
  have a2 : (16 * x + (4 * d + r)) / 2048 = x / 128 := by omega
  have a3 : (16 * x + (4 * d + r)) % 4 = r := by omega
  have a4 : (16 * x + (4 * d + r)) / 16 % 128 = x % 128 := by omega
  rw [a1, a2, a3, a4]
  have b1 : x / 128 < 8192 := by omega
  have b2 : x % 128 < 128 := by omega
  generalize x / 128 = n at *
  generalize x % 128 = l at *
  have c1 : (((d * 8192 + n) * 4 + r) * 128 + l) / 128 = (d * 8192 + n) * 4 + r := by omega
  have c2 : (((d * 8192 + n) * 4 + r) * 128 + l) / 1024 = d * 4096 + n / 2 := by omega
  have c3 : (d * 4096 + n / 2) / 4096 = d := by omega
  rw [c1, c2, c3]
  omega

/-- The result at an image, row `d` and column `r` of the picture is an entry of the tile in a row `8 d + 4 h + r`. -/
theorem result_apply (i : S1048576x1x4x4.Idx) : ∃ (r : Fin 32) (l : Fin 128), r.val / 8 = (i 2 : ℕ) ∧ r.val % 4 = (i 3 : ℕ) ∧
    Read.val_main_v7 (F := F) (Value.reg_main_v4 m c) i = gridTile m c (ix2 r l) := by
  have h0 : (i 0 : ℕ) < 1048576 := (i 0).isLt
  have h1 : (i 1 : ℕ) < 1 := (i 1).isLt
  have h2 : (i 2 : ℕ) < 4 := (i 2).isLt
  have h3 : (i 3 : ℕ) < 4 := (i 3).isLt
  rw [Read.val_main_v7_apply, Read.val_main_v6_apply, Read.val_main_v5_apply]
  refine ⟨_, _, ?_, ?_, show Value.reg_main_v4 m c _ = _ by unfold Value.reg_main_v4; rw [final_out]; rfl⟩
  · show (8 * ((((((((i 0).val * 1 + (i 1).val) * 4 + (i 2).val) * 4 + (i 3).val) / 4 % 4 * 8192 + ((((i 0).val * 1 + (i 1).val) * 4 + (i 2).val) * 4 + (i 3).val) / 2048) * 4 + ((((i 0).val * 1 + (i 1).val) * 4 + (i 2).val) * 4 + (i 3).val) % 4) * 128 + ((((i 0).val * 1 + (i 1).val) * 4 + (i 2).val) * 4 + (i 3).val) / 16 % 128) / 1024 / 4096) + (((((((i 0).val * 1 + (i 1).val) * 4 + (i 2).val) * 4 + (i 3).val) / 4 % 4 * 8192 + ((((i 0).val * 1 + (i 1).val) * 4 + (i 2).val) * 4 + (i 3).val) / 2048) * 4 + ((((i 0).val * 1 + (i 1).val) * 4 + (i 2).val) * 4 + (i 3).val) % 4) * 128 + ((((i 0).val * 1 + (i 1).val) * 4 + (i 2).val) * 4 + (i 3).val) / 16 % 128) / 128 % 8) / 8 = (i 2).val
    exact (row_pos _ _ _ _ h0 h1 h2 h3).1
  · show (8 * ((((((((i 0).val * 1 + (i 1).val) * 4 + (i 2).val) * 4 + (i 3).val) / 4 % 4 * 8192 + ((((i 0).val * 1 + (i 1).val) * 4 + (i 2).val) * 4 + (i 3).val) / 2048) * 4 + ((((i 0).val * 1 + (i 1).val) * 4 + (i 2).val) * 4 + (i 3).val) % 4) * 128 + ((((i 0).val * 1 + (i 1).val) * 4 + (i 2).val) * 4 + (i 3).val) / 16 % 128) / 1024 / 4096) + (((((((i 0).val * 1 + (i 1).val) * 4 + (i 2).val) * 4 + (i 3).val) / 4 % 4 * 8192 + ((((i 0).val * 1 + (i 1).val) * 4 + (i 2).val) * 4 + (i 3).val) / 2048) * 4 + ((((i 0).val * 1 + (i 1).val) * 4 + (i 2).val) * 4 + (i 3).val) % 4) * 128 + ((((i 0).val * 1 + (i 1).val) * 4 + (i 2).val) * 4 + (i 3).val) / 16 % 128) / 128 % 8) % 4 = (i 3).val
    exact (row_pos _ _ _ _ h0 h1 h2 h3).2

end Array

end Cert.KCircuit
end
-- ==== Proof.KHead.lean ====
/- The kernel's expectation values, network and kept tile at the ideal values. -/
module

public import proofs.«01_k».proof.Proof.KRing
public import proofs.«01_k».proof.Proof.KOut

@[expose] public section

set_option maxRecDepth 16384

noncomputable section

namespace Cert.KCircuit

open Idealize.ShloMosaic hiding ix0 ix1 ix2 ix3 ix4 ix5 ix6
open Idealize.ShloMosaic.TcCoe Idealize.ShloMosaic.ValueIdx Cert.KernelIdeal Cert.KernelIdeal.Gen
open Cert.Sem (Wires State angleGate bits rowWire laneWire)

/-- The product of a number with itself is not negative. -/
theorem mul_self_nonneg' (x : EReal) : 0 ≤ x * x := by
  rcases le_total 0 x with h | h
  · exact mul_nonneg h h
  · rw [← neg_mul_neg]
    have h' : 0 ≤ -x := EReal.neg_nonneg.2 h
    exact mul_nonneg h' h'

/-- A sum of negatives is the negative of the sum where nothing is negative. -/
theorem sum_neg {α : Type} (s : Finset α) (p : α → EReal) (hp : ∀ b, 0 ≤ p b) : ∑ b ∈ s, -p b = -∑ b ∈ s, p b := by
  classical
  induction s using Finset.induction_on with
  | empty => simp
  | insert a s ha ih =>
    have h1 : p a ≠ ⊥ := fun h => absurd (hp a) (by rw [h]; decide)
    have h2 : ∑ b ∈ s, p b ≠ ⊥ := fun h => absurd (Finset.sum_nonneg fun b _ => hp b : 0 ≤ ∑ b ∈ s, p b) (by rw [h]; decide)
    rw [Finset.sum_insert ha, Finset.sum_insert ha, ih, EReal.neg_add (.inl h1) (.inr h2), sub_eq_add_neg]

/-- The sum with the sign changed where a wire is one is the expectation value of the wire. -/
theorem signed_sum (q : Fin 12) (p : Wires → EReal) (hp : ∀ b, 0 ≤ p b) :
    ∑ b, (if b q = 1 then -p b else p b) = Cert.Sem.expval q p := by
  have h01 (b : Wires) : ¬ b q = 1 ↔ b q = 0 := by
    generalize b q = x
    revert x
    decide
  rw [Finset.sum_ite, sum_neg _ _ hp, add_comm, ← sub_eq_add_neg]
  simp only [h01]
  rfl

/-- The kernel's signed sum of a tile. -/
theorem zval_apply (b : IVec S32x128 1) (p : Tile Ideal) :
    zval b p = ∑ r : Fin 32, ∑ c : Fin 128, Scalar.select (b (ix2 r c)) (-p (ix2 r c)) (p (ix2 r c)) := by
  unfold zval
  refine (Ideal.multiReduction_add_total _ 0x00000000#32 _ (fun b => by fin_cases b; rfl) (.inl rfl) rfl _).trans ?_
  rw [sum_idx3 (n0 := 1) (n1 := 32) (n2 := 128)]
  rw [Fin.sum_univ_one]
  refine Finset.sum_congr rfl fun r _ => Finset.sum_congr rfl fun c _ => ?_
  refine (shapeCast_addUnit_apply ![32, 128] _ _ _).trans ?_
  refine (congrArg _ (show (fun a : Fin 2 => ix3 (0 : Fin 1) r c a.succ) = ix2 r c from funext fun a => by fin_cases a <;> rfl)).trans ?_
  show Scalar.select (b (ix2 r c)) (Ideal.ofBits .f32 0x00000000#32 - p (ix2 r c)) (p (ix2 r c)) = _
  rw [Ideal.ofBits_zero_f32, sub_eq_add_neg, zero_add]

/-- The kernel's expectation value of a wire. -/
theorem zval_eq (q : Fin 12) (b : IVec S32x128 1) (hb : ∀ r c, b (ix2 r c) = flag (bits r c q = 1)) (p : Tile Ideal)
    (P : Wires → EReal) (hP : ∀ w, 0 ≤ P w) (hp : ∀ r c, p (ix2 r c) = P (bits r c)) : zval b p = Cert.Sem.expval q P := by
  rw [zval_apply, ← signed_sum q P hP, ← Cert.Sem.sum_bits]
  refine Finset.sum_congr rfl fun r _ => Finset.sum_congr rfl fun c _ => ?_
  rw [hb, hp, select_flag]

/-- One step of the hidden layer's sum. -/
theorem accStep_apply (q : Fin 12) (b : IVec S32x128 1) (hb : ∀ r c, b (ix2 r c) = flag (bits r c q = 1)) (p : Tile Ideal)
    (P : Wires → EReal) (hP : ∀ w, 0 ≤ P w) (hp : ∀ r c, p (ix2 r c) = P (bits r c)) (row acc : FVec Ideal S1x32 .f32) (j : Fin 32) :
    accStep b p row acc (ix2 0 j) = acc (ix2 0 j) + Cert.Sem.expval q P * row (ix2 0 j) := by
  rw [← zval_eq q b hb p P hP hp]
  show acc (ix2 0 j) + zval b p * shapeCast S1x32 row shapeCasts_S1x32_S1x32 (ix2 0 j) = _
  rw [shapeCast_apply row _ (ix2 0 j) (ix2 0 j) rfl]

/-- The hidden layer's sum. -/
theorem acc_apply (p : Tile Ideal) (P : Wires → EReal) (hP : ∀ w, 0 ≤ P w) (hp : ∀ r c, p (ix2 r c) = P (bits r c))
    (row : Fin 12 → FVec Ideal S1x32 .f32) (b1 : FVec Ideal S1x32 .f32) (j : Fin 32) :
    acc p row b1 (ix2 0 j) = ∑ q : Fin 12, Cert.Sem.expval q P * row q (ix2 0 j) + b1 (ix2 0 j) := by
  let g : ℕ → EReal := fun n => if h : n < 12 then Cert.Sem.expval ⟨n, h⟩ P * row ⟨n, h⟩ (ix2 0 j) else 0
  have hg (q : Fin 12) : g q.val = Cert.Sem.expval q P * row q (ix2 0 j) := dif_pos q.isLt
  -- the sum so far grows by one wire with each step
  have step (q : Fin 12) (b : IVec S32x128 1) (hb : ∀ r c, b (ix2 r c) = flag (bits r c q = 1)) (a : FVec Ideal S1x32 .f32)
      (ha : a (ix2 0 j) = b1 (ix2 0 j) + ∑ n ∈ Finset.range q.val, g n) :
      accStep b p (row q) a (ix2 0 j) = b1 (ix2 0 j) + ∑ n ∈ Finset.range (q.val + 1), g n := by
    rw [accStep_apply q b hb p P hP hp, ha, Finset.sum_range_succ, hg, add_assoc]
  have h0 : shapeCast S1x32 b1 shapeCasts_S1x32_S1x32 (ix2 0 j) = b1 (ix2 0 j) + ∑ n ∈ Finset.range 0, g n := by
    rw [shapeCast_apply b1 _ (ix2 0 j) (ix2 0 j) rfl, Finset.sum_range_zero, add_zero]
  have h : acc p row b1 (ix2 0 j) = b1 (ix2 0 j) + ∑ n ∈ Finset.range 12, g n :=
    step 11 _ (bitOf_lane 0) _ <| step 10 _ (bitOf_lane 1) _ <| step 9 _ (bitOf_lane 2) _ <| step 8 _ (bitOf_lane 3) _ <|
    step 7 _ (bitOf_lane 4) _ <| step 6 _ (bitOf_lane 5) _ <| step 5 _ (bitOf_lane 6) _ <| step 4 _ (bitOf_row 0) _ <|
    step 3 _ (bitOf_row 1) _ <| step 2 _ (bitOf_row 2) _ <| step 1 _ (bitOf_row 3) _ <| step 0 _ (bitOf_row 4) _ h0
  rw [h, add_comm, Finset.sum_fin_eq_sum_range]

/-- The pixels, the same along the lanes. -/
theorem pixels_apply (a : FVec Ideal S1x32 .f32) (w2 : FVec Ideal S16x32 .f32) (b2 : FVec Ideal S1x16 .f32) (k : Fin 16) (l : Fin 128) :
    pixels a w2 b2 (ix2 k l) =
      Ideal.logistic (∑ j : Fin 32, max (a (ix2 0 j)) 0 * w2 (ix2 k j) + b2 (ix2 0 k)) := by
  refine (matmul_eq dot_S1x16_S1x128_S16x128_0_0_1_1_n_n (K := 1) rfl rfl _ _ _ (fun z => ix2 z k) (fun z => ix2 z l)
    (fun z b => by fin_cases b <;> rfl) (fun z b => by fin_cases b <;> rfl)).trans ?_
  rw [Fin.sum_univ_one]
  show Ideal.logistic (matmul dot_S1x32_S16x32_S1x16_1_1_0_0_n_n none
      (maximumf a (broadcast S1x32 (Ideal.ofBits .f32 0x00000000#32))) w2 (constant S1x16 .f32 0x00000000#32) (ix2 0 k)
      + shapeCast S1x16 b2 shapeCasts_S1x16_S1x16 (ix2 0 k)) * Ideal.ofBits .f32 0x3F800000#32 = _
  rw [Ideal.ofBits_one_f32, mul_one, shapeCast_apply b2 _ (ix2 0 k) (ix2 0 k) rfl]
  refine congrArg (fun x => Ideal.logistic (x + b2 (ix2 0 k))) ?_
  refine (matmul_eq dot_S1x32_S16x32_S1x16_1_1_0_0_n_n (K := 32) rfl rfl _ _ _ (fun j => ix2 0 j) (fun j => ix2 k j)
    (fun z b => by fin_cases b <;> rfl) (fun z b => by fin_cases b <;> rfl)).trans ?_
  refine Finset.sum_congr rfl fun j _ => congrArg (· * w2 (ix2 k j)) ?_
  show max (a (ix2 0 j)) (Ideal.ofBits .f32 0x00000000#32) = _
  rw [Ideal.ofBits_zero_f32]

/-- The kept tile's row `r` holds the pixel of picture row `r / 8` and column `r % 4`. -/
theorem kept_apply (m : FVec Ideal S16x128 .f32) (r : Fin 32) (l : Fin 128) :
    kept m (ix2 r l) = m (ix2 (⟨4 * (r.val / 8) + r.val % 4, by omega⟩ : Fin 16) l) := by
  have hs (o : ℕ) (h : S16x128.Slices ![o, 0] S4x128) (k : Fin 4) (z : Fin 16) (hz : z.val = o + k.val) :
      extractStridedSlice S4x128 ![o, 0] m h (ix2 k l) = m (ix2 z l) :=
    extractStridedSlice_apply _ _ _ _ _ fun a => by
      match a with
      | ⟨0, _⟩ => exact hz
      | ⟨1, _⟩ => exact (Nat.zero_add _).symm
  have hn8 (n : Fin 8) : S16x128.Slices ![4 * (n.val / 2), 0] S4x128 := ⟨rfl, fun a => by
    match a with
    | ⟨0, _⟩ => show 4 * (n.val / 2) + 4 ≤ 16; omega
    | ⟨1, _⟩ => exact Nat.le_refl 128⟩
  obtain ⟨n, hn⟩ : ∃ n : Fin 8, r.val / 4 = n.val := ⟨⟨r.val / 4, by omega⟩, rfl⟩
  unfold kept k0_pay1
  refine (shapeCast_apply _ _ (ix2 r l) (ix2 r l) rfl).trans ?_
  refine (concatenate_ofFn_apply (t := S32x128) (s₁ := S4x128) 0
    (fun n : Fin 8 => extractStridedSlice S4x128 ![4 * (n.val / 2), 0] m (hn8 n))
    _ rfl 4 rfl (ix2 r l) n hn (ix2 (⟨r.val % 4, by omega⟩ : Fin 4) l) rfl (fun b hb => ?_)).trans ?_
  · match b, hb with
    | ⟨0, _⟩, hb => exact absurd rfl hb
    | ⟨1, _⟩, _ => rfl
  · have hr : r.val / 8 = n.val / 2 := by omega
    exact hs _ _ _ _ (by show 4 * (r.val / 8) + r.val % 4 = 4 * (n.val / 2) + r.val % 4; rw [hr])

/-- The kept tile at the ideal values is the picture. -/
theorem tile_apply (x0 : Vec Ideal S3x3x12 .f32) (x1 : Vec Ideal S12x32 .f32) (x2 : Vec Ideal S1x32 .f32) (x3 : Vec Ideal S16x32 .f32)
    (x4 : Vec Ideal S1x16 .f32) (r : Fin 32) (l : Fin 128) :
    tile x0 x1 x2 x3 x4 (ix2 r l) =
      Cert.Sem.picture (fun l q a => x0 (ix3 l a q)) (fun j q => x1 (ix2 q j)) (fun j => x2 (ix2 0 j)) (fun k j => x3 (ix2 k j))
        (fun k => x4 (ix2 0 k)) ⟨4 * (r.val / 8) + r.val % 4, by omega⟩ := by
  have hP (w : Wires) : 0 ≤ Cert.Sem.prob (Cert.Sem.final fun l q => angleGate fun a => x0 (ix3 l a q)) w :=
    add_nonneg (mul_self_nonneg' _) (mul_self_nonneg' _)
  unfold tile
  rw [kept_apply, pixels_apply]
  unfold Cert.Sem.picture Cert.Sem.net
  refine congrArg (fun x => Ideal.logistic (x + _)) (Finset.sum_congr rfl fun j _ => ?_)
  rw [acc_apply _ _ hP (probs_apply fun l q a => x0 (ix3 l a q))]

end Cert.KCircuit
end
-- ==== Proof.RDef.lean ====
/- The reference as a few functions of arrays: the gates' matrices, one gate, one controlled flip, one layer, the
   probabilities, the expectation values and the network; and that the reference's stages are exactly these. -/
module

public import proofs.«01_k».proof.Proof.Gen.ReferenceIdeal.Read

@[expose] public section

set_option maxRecDepth 16384

noncomputable section

namespace Cert.RCircuit

open Idealize.ShloMosaic Idealize.ShloMosaic.TcCoe Cert.ReferenceIdeal Cert.ReferenceIdeal.Facts Cert.ReferenceIdeal.Gen Cert.ReferenceIdeal.Read

/-- The shape of a state: the part and the twelve wires. -/
abbrev S13 : Shape := S2x2x2x2x2x2x2x2x2x2x2x2x2
/-- The shape of the probabilities: the twelve wires. -/
abbrev S12w : Shape := S2x2x2x2x2x2x2x2x2x2x2x2

variable {F : FTy → Type} [FloatOps F]

/-- The gate `g` on wire `q` of a state. -/
def gateArr (q : Fin 12) (g : FVec F S2x2x2x2 .f32) (s : FVec F S13 .f32) : FVec F S13 .f32 :=
  match q with
  | 0 => Host.dotGeneral dot_S2x2x2x2_S2x2x2x2x2x2x2x2x2x2x2x2x2_S2x2x2x2x2x2x2x2x2x2x2x2x2_23_01_01_23456789101112_n_n none g s
  | 1 => transpose S13 [0, 2, 1, 3, 4, 5, 6, 7, 8, 9, 10, 11, 12] (Host.dotGeneral dot_S2x2x2x2_S2x2x2x2x2x2x2x2x2x2x2x2x2_S2x2x2x2x2x2x2x2x2x2x2x2x2_23_02_01_13456789101112_n_n none g s)
      transposes_S2x2x2x2x2x2x2x2x2x2x2x2x2_S2x2x2x2x2x2x2x2x2x2x2x2x2_0_2_1_3_4_5_6_7_8_9_10_11_12
  | 2 => transpose S13 [0, 2, 3, 1, 4, 5, 6, 7, 8, 9, 10, 11, 12] (Host.dotGeneral dot_S2x2x2x2_S2x2x2x2x2x2x2x2x2x2x2x2x2_S2x2x2x2x2x2x2x2x2x2x2x2x2_23_03_01_12456789101112_n_n none g s)
      transposes_S2x2x2x2x2x2x2x2x2x2x2x2x2_S2x2x2x2x2x2x2x2x2x2x2x2x2_0_2_3_1_4_5_6_7_8_9_10_11_12
  | 3 => transpose S13 [0, 2, 3, 4, 1, 5, 6, 7, 8, 9, 10, 11, 12] (Host.dotGeneral dot_S2x2x2x2_S2x2x2x2x2x2x2x2x2x2x2x2x2_S2x2x2x2x2x2x2x2x2x2x2x2x2_23_04_01_12356789101112_n_n none g s)
      transposes_S2x2x2x2x2x2x2x2x2x2x2x2x2_S2x2x2x2x2x2x2x2x2x2x2x2x2_0_2_3_4_1_5_6_7_8_9_10_11_12
  | 4 => transpose S13 [0, 2, 3, 4, 5, 1, 6, 7, 8, 9, 10, 11, 12] (Host.dotGeneral dot_S2x2x2x2_S2x2x2x2x2x2x2x2x2x2x2x2x2_S2x2x2x2x2x2x2x2x2x2x2x2x2_23_05_01_12346789101112_n_n none g s)
      transposes_S2x2x2x2x2x2x2x2x2x2x2x2x2_S2x2x2x2x2x2x2x2x2x2x2x2x2_0_2_3_4_5_1_6_7_8_9_10_11_12
  | 5 => transpose S13 [0, 2, 3, 4, 5, 6, 1, 7, 8, 9, 10, 11, 12] (Host.dotGeneral dot_S2x2x2x2_S2x2x2x2x2x2x2x2x2x2x2x2x2_S2x2x2x2x2x2x2x2x2x2x2x2x2_23_06_01_12345789101112_n_n none g s)
      transposes_S2x2x2x2x2x2x2x2x2x2x2x2x2_S2x2x2x2x2x2x2x2x2x2x2x2x2_0_2_3_4_5_6_1_7_8_9_10_11_12
  | 6 => transpose S13 [0, 2, 3, 4, 5, 6, 7, 1, 8, 9, 10, 11, 12] (Host.dotGeneral dot_S2x2x2x2_S2x2x2x2x2x2x2x2x2x2x2x2x2_S2x2x2x2x2x2x2x2x2x2x2x2x2_23_07_01_12345689101112_n_n none g s)
      transposes_S2x2x2x2x2x2x2x2x2x2x2x2x2_S2x2x2x2x2x2x2x2x2x2x2x2x2_0_2_3_4_5_6_7_1_8_9_10_11_12
  | 7 => transpose S13 [0, 2, 3, 4, 5, 6, 7, 8, 1, 9, 10, 11, 12] (Host.dotGeneral dot_S2x2x2x2_S2x2x2x2x2x2x2x2x2x2x2x2x2_S2x2x2x2x2x2x2x2x2x2x2x2x2_23_08_01_12345679101112_n_n none g s)
      transposes_S2x2x2x2x2x2x2x2x2x2x2x2x2_S2x2x2x2x2x2x2x2x2x2x2x2x2_0_2_3_4_5_6_7_8_1_9_10_11_12
  | 8 => transpose S13 [0, 2, 3, 4, 5, 6, 7, 8, 9, 1, 10, 11, 12] (Host.dotGeneral dot_S2x2x2x2_S2x2x2x2x2x2x2x2x2x2x2x2x2_S2x2x2x2x2x2x2x2x2x2x2x2x2_23_09_01_12345678101112_n_n none g s)
      transposes_S2x2x2x2x2x2x2x2x2x2x2x2x2_S2x2x2x2x2x2x2x2x2x2x2x2x2_0_2_3_4_5_6_7_8_9_1_10_11_12
  | 9 => transpose S13 [0, 2, 3, 4, 5, 6, 7, 8, 9, 10, 1, 11, 12] (Host.dotGeneral dot_S2x2x2x2_S2x2x2x2x2x2x2x2x2x2x2x2x2_S2x2x2x2x2x2x2x2x2x2x2x2x2_23_010_01_1234567891112_n_n none g s)
      transposes_S2x2x2x2x2x2x2x2x2x2x2x2x2_S2x2x2x2x2x2x2x2x2x2x2x2x2_0_2_3_4_5_6_7_8_9_10_1_11_12
  | 10 => transpose S13 [0, 2, 3, 4, 5, 6, 7, 8, 9, 10, 11, 1, 12] (Host.dotGeneral dot_S2x2x2x2_S2x2x2x2x2x2x2x2x2x2x2x2x2_S2x2x2x2x2x2x2x2x2x2x2x2x2_23_011_01_1234567891012_n_n none g s)
      transposes_S2x2x2x2x2x2x2x2x2x2x2x2x2_S2x2x2x2x2x2x2x2x2x2x2x2x2_0_2_3_4_5_6_7_8_9_10_11_1_12
  | 11 => transpose S13 [0, 2, 3, 4, 5, 6, 7, 8, 9, 10, 11, 12, 1] (Host.dotGeneral dot_S2x2x2x2_S2x2x2x2x2x2x2x2x2x2x2x2x2_S2x2x2x2x2x2x2x2x2x2x2x2x2_23_012_01_1234567891011_n_n none g s)
      transposes_S2x2x2x2x2x2x2x2x2x2x2x2x2_S2x2x2x2x2x2x2x2x2x2x2x2x2_0_2_3_4_5_6_7_8_9_10_11_12_1

/-- The gate of layer `l` and wire `q`, out of all the gates. -/
def gateAt (l : Fin 3) (q : Fin 12) (G : FVec F S3x12x2x2x2x2 .f32) : FVec F S2x2x2x2 .f32 :=
  shapeCast S2x2x2x2 (extractStridedSlice S1x1x2x2x2x2 ![l.val, q.val, 0, 0, 0, 0] G
    ⟨rfl, fun a => by
      match a with
      | ⟨0, _⟩ => exact l.isLt
      | ⟨1, _⟩ => exact q.isLt
      | ⟨2, _⟩ => exact Nat.le_refl 2
      | ⟨3, _⟩ => exact Nat.le_refl 2
      | ⟨4, _⟩ => exact Nat.le_refl 2
      | ⟨5, _⟩ => exact Nat.le_refl 2⟩) shapeCasts_S1x1x2x2x2x2_S2x2x2x2

/-- Axis `t` flipped where axis `c` is one. -/
def cnotArr (c t : Fin 13) (s : FVec F S13 .f32) : FVec F S13 .f32 :=
  select (cmpi .eq (iotaInDim S13 32 c) (broadcastInDim S13 ![] bcast_S_S2x2x2x2x2x2x2x2x2x2x2x2x2 (constantI S_ 32 1#32)))
    (Host.reverse [t] s) s

/-- The twelve gates of a layer. -/
def gatesArr (l : Fin 3) (G : FVec F S3x12x2x2x2x2 .f32) (s : FVec F S13 .f32) : FVec F S13 .f32 :=
  gateArr 11 (gateAt l 11 G) <| gateArr 10 (gateAt l 10 G) <| gateArr 9 (gateAt l 9 G) <| gateArr 8 (gateAt l 8 G) <| gateArr 7 (gateAt l 7 G) <| gateArr 6 (gateAt l 6 G) <| gateArr 5 (gateAt l 5 G) <| gateArr 4 (gateAt l 4 G) <| gateArr 3 (gateAt l 3 G) <| gateArr 2 (gateAt l 2 G) <| gateArr 1 (gateAt l 1 G) <| gateArr 0 (gateAt l 0 G) s

/-- The ring of twelve controlled flips. -/
def ringArr (s : FVec F S13 .f32) : FVec F S13 .f32 :=
  cnotArr 12 1 <| cnotArr 11 12 <| cnotArr 10 11 <| cnotArr 9 10 <| cnotArr 8 9 <| cnotArr 7 8 <| cnotArr 6 7 <| cnotArr 5 6 <| cnotArr 4 5 <| cnotArr 3 4 <| cnotArr 2 3 <| cnotArr 1 2 s

/-- The first state. -/
def startArr : FVec F S13 .f32 := val_main_v104 (F := F)

/-- The last state. -/
def finalArr (G : FVec F S3x12x2x2x2x2 .f32) : FVec F S13 .f32 :=
  ringArr <| gatesArr 2 G <| ringArr <| gatesArr 1 G <| ringArr <| gatesArr 0 G startArr

/-- The reference's last state is three layers of its gates. -/
theorem final_stage (x1 : FVec F S3x12x3 .f32) : val_main_v425 x1 = finalArr (val_main_v98 x1) := rfl

/-- The probability of a wire being zero and being one. -/
def margArr (q : Fin 12) (p : FVec F S12w .f32) : FVec F S2 .f32 :=
  match q with
  | 0 => Host.reduceAdd p (constant S_ .f32 0x00000000#32) reducesTo_S2x2x2x2x2x2x2x2x2x2x2x2_S2_d1_2_3_4_5_6_7_8_9_10_11 h_S_
  | 1 => Host.reduceAdd p (constant S_ .f32 0x00000000#32) reducesTo_S2x2x2x2x2x2x2x2x2x2x2x2_S2_d0_2_3_4_5_6_7_8_9_10_11 h_S_
  | 2 => Host.reduceAdd p (constant S_ .f32 0x00000000#32) reducesTo_S2x2x2x2x2x2x2x2x2x2x2x2_S2_d0_1_3_4_5_6_7_8_9_10_11 h_S_
  | 3 => Host.reduceAdd p (constant S_ .f32 0x00000000#32) reducesTo_S2x2x2x2x2x2x2x2x2x2x2x2_S2_d0_1_2_4_5_6_7_8_9_10_11 h_S_
  | 4 => Host.reduceAdd p (constant S_ .f32 0x00000000#32) reducesTo_S2x2x2x2x2x2x2x2x2x2x2x2_S2_d0_1_2_3_5_6_7_8_9_10_11 h_S_
  | 5 => Host.reduceAdd p (constant S_ .f32 0x00000000#32) reducesTo_S2x2x2x2x2x2x2x2x2x2x2x2_S2_d0_1_2_3_4_6_7_8_9_10_11 h_S_
  | 6 => Host.reduceAdd p (constant S_ .f32 0x00000000#32) reducesTo_S2x2x2x2x2x2x2x2x2x2x2x2_S2_d0_1_2_3_4_5_7_8_9_10_11 h_S_
  | 7 => Host.reduceAdd p (constant S_ .f32 0x00000000#32) reducesTo_S2x2x2x2x2x2x2x2x2x2x2x2_S2_d0_1_2_3_4_5_6_8_9_10_11 h_S_
  | 8 => Host.reduceAdd p (constant S_ .f32 0x00000000#32) reducesTo_S2x2x2x2x2x2x2x2x2x2x2x2_S2_d0_1_2_3_4_5_6_7_9_10_11 h_S_
  | 9 => Host.reduceAdd p (constant S_ .f32 0x00000000#32) reducesTo_S2x2x2x2x2x2x2x2x2x2x2x2_S2_d0_1_2_3_4_5_6_7_8_10_11 h_S_
  | 10 => Host.reduceAdd p (constant S_ .f32 0x00000000#32) reducesTo_S2x2x2x2x2x2x2x2x2x2x2x2_S2_d0_1_2_3_4_5_6_7_8_9_11 h_S_
  | 11 => Host.reduceAdd p (constant S_ .f32 0x00000000#32) reducesTo_S2x2x2x2x2x2x2x2x2x2x2x2_S2_d0_1_2_3_4_5_6_7_8_9_10 h_S_

/-- The expectation value of a wire. -/
def zArr (q : Fin 12) (p : FVec F S12w .f32) : FVec F S1 .f32 :=
  broadcastInDim S1 ![] bcast_S_S1 (subf
    (shapeCast S_ (extractStridedSlice S1 ![0] (margArr q p) slices_S2_S1_0) shapeCasts_S1_S_)
    (shapeCast S_ (extractStridedSlice S1 ![1] (margArr q p) slices_S2_S1_1) shapeCasts_S1_S_))

/-- The twelve expectation values. -/
def zsArr (p : FVec F S12w .f32) : FVec F S12 .f32 :=
  concatenate S12 0 (List.ofFn fun q : Fin 12 => (⟨S1, zArr q p⟩ : (s : Shape) × (s.Idx → F .f32)))
    concatenates_S1_S1_S1_S1_S1_S1_S1_S1_S1_S1_S1_S1_S12_d0

/-- The reference's expectation values are those of its probabilities. -/
theorem zs_stage (x1 : FVec F S3x12x3 .f32) : val_main_v517 x1 = zsArr (val_main_v432 x1) := rfl

end Cert.RCircuit
end
-- ==== Proof.RMat.lean ====
/- The reference's gates: the entries of each gate's matrix from the cosines and sines of its three half angles. -/
module

public import proofs.«01_k».proof.Proof.RDef
public import proofs.«01_k».proof.Proof.Sem
public import Idealize.ShloMosaic.Lib.IdealHost
public import Idealize.ShloMosaic.Lib.ValueIdx
public import Idealize.ShloMosaic.Lib.ValueIdxRank6
public import Idealize.ShloMosaic.Lib.Pipeline.Value
public import Idealize.ShloMosaic.Lib.Pointwise.Contract
public import Idealize.ShloMosaic.PureOps.Ideal.Laws

@[expose] public section

set_option maxRecDepth 16384

noncomputable section

namespace Cert.RCircuit

open Idealize.ShloMosaic hiding ix0 ix1 ix2 ix3 ix4 ix5 ix6
open Cert.Sem (halfAngle angleGate)
open Idealize.ShloMosaic.TcCoe Idealize.ShloMosaic.ValueIdx Cert.ReferenceIdeal Cert.ReferenceIdeal.Facts Cert.ReferenceIdeal.Gen Cert.ReferenceIdeal.Read

variable {F : FTy → Type} [FloatOps F]

/-- Two numbers for each layer and wire, side by side. -/
def vec2 (a b : FVec F S3x12 .f32) : FVec F S3x12x2 .f32 :=
  concatenate S3x12x2 2 [⟨S3x12x1, broadcastInDim S3x12x1 ![0, 1] bcast_S3x12_S3x12x1_0_1 a⟩,
    ⟨S3x12x1, broadcastInDim S3x12x1 ![0, 1] bcast_S3x12_S3x12x1_0_1 b⟩] concatenates_S3x12x1_S3x12x1_S3x12x2_d2

/-- A two by two matrix for each layer and wire, from its two rows. -/
def mat2 (a b : FVec F S3x12x2 .f32) : FVec F S3x12x2x2 .f32 :=
  concatenate S3x12x2x2 2 [⟨S3x12x1x2, broadcastInDim S3x12x1x2 ![0, 1, 3] bcast_S3x12x2_S3x12x1x2_0_1_3 a⟩,
    ⟨S3x12x1x2, broadcastInDim S3x12x1x2 ![0, 1, 3] bcast_S3x12x2_S3x12x1x2_0_1_3 b⟩] concatenates_S3x12x1x2_S3x12x1x2_S3x12x2x2_d2

/-- Two matrices for each layer and wire side by side. -/
def pair3 (a b : FVec F S3x12x2x2 .f32) : FVec F S3x12x2x2x2 .f32 :=
  concatenate S3x12x2x2x2 3 [⟨S3x12x2x1x2, broadcastInDim S3x12x2x1x2 ![0, 1, 2, 4] bcast_S3x12x2x2_S3x12x2x1x2_0_1_2_4 a⟩,
    ⟨S3x12x2x1x2, broadcastInDim S3x12x2x1x2 ![0, 1, 2, 4] bcast_S3x12x2x2_S3x12x2x1x2_0_1_2_4 b⟩] concatenates_S3x12x2x1x2_S3x12x2x1x2_S3x12x2x2x2_d3

/-- Two pairs of matrices for each layer and wire, one above the other. -/
def pair2 (a b : FVec F S3x12x2x2x2 .f32) : FVec F S3x12x2x2x2x2 .f32 :=
  concatenate S3x12x2x2x2x2 2 [⟨S3x12x1x2x2x2, broadcastInDim S3x12x1x2x2x2 ![0, 1, 3, 4, 5] bcast_S3x12x2x2x2_S3x12x1x2x2x2_0_1_3_4_5 a⟩,
    ⟨S3x12x1x2x2x2, broadcastInDim S3x12x1x2x2x2 ![0, 1, 3, 4, 5] bcast_S3x12x2x2x2_S3x12x1x2x2x2_0_1_3_4_5 b⟩] concatenates_S3x12x1x2x2x2_S3x12x1x2x2x2_S3x12x2x2x2x2_d2

/-- The product of two matrices for each layer and wire. -/
def mul2 (a b : FVec F S3x12x2x2 .f32) : FVec F S3x12x2x2 .f32 :=
  Host.dotGeneral dot_S3x12x2x2_S3x12x2x2_S3x12x2x2_3_2_2_3_01_01 none a b

/-- `vec2` at an index. -/
theorem vec2_apply (a b : FVec F S3x12 .f32) (l : Fin 3) (q : Fin 12) (j : Fin 2) :
    vec2 a b (ix3 l q j) = ![a, b] j (ix2 l q) := by
  fin_cases j
  · refine (concatenate_pair_apply_left (s₁ := S3x12x1) (s₂ := S3x12x1) 2 _ _ _ (ix3 l q (0 : Fin 2)) rfl (ix3 l q (0 : Fin 1)) fun a => ?_).trans
      (broadcastInDim_apply _ _ _ _ (ix2 l q) fun a => ?_)
    · fin_cases a <;> rfl
    · fin_cases a <;> rfl
  · refine (concatenate_pair_apply_right (s₁ := S3x12x1) (s₂ := S3x12x1) 2 _ _ _ (ix3 l q (1 : Fin 2)) rfl rfl (ix3 l q (0 : Fin 1)) (fun a ha => ?_) (Nat.zero_add 1)).trans
      (broadcastInDim_apply _ _ _ _ (ix2 l q) fun a => ?_)
    · fin_cases a <;> first | rfl | exact absurd rfl ha
    · fin_cases a <;> rfl

/-- `mat2` at an index. -/
theorem mat2_apply (a b : FVec F S3x12x2 .f32) (l : Fin 3) (q : Fin 12) (i j : Fin 2) :
    mat2 a b (ix4 l q i j) = ![a, b] i (ix3 l q j) := by
  fin_cases i
  · refine (concatenate_pair_apply_left (s₁ := S3x12x1x2) (s₂ := S3x12x1x2) 2 _ _ _ (ix4 l q (0 : Fin 2) j) rfl (ix4 l q (0 : Fin 1) j) fun a => ?_).trans
      (broadcastInDim_apply _ _ _ _ (ix3 l q j) fun a => ?_)
    · fin_cases a <;> rfl
    · fin_cases a <;> rfl
  · refine (concatenate_pair_apply_right (s₁ := S3x12x1x2) (s₂ := S3x12x1x2) 2 _ _ _ (ix4 l q (1 : Fin 2) j) rfl rfl (ix4 l q (0 : Fin 1) j) (fun a ha => ?_) (Nat.zero_add 1)).trans
      (broadcastInDim_apply _ _ _ _ (ix3 l q j) fun a => ?_)
    · fin_cases a <;> first | rfl | exact absurd rfl ha
    · fin_cases a <;> rfl

/-- `pair3` at an index. -/
theorem pair3_apply (a b : FVec F S3x12x2x2 .f32) (l : Fin 3) (q : Fin 12) (i p j : Fin 2) :
    pair3 a b (ix5 l q i p j) = ![a, b] p (ix4 l q i j) := by
  fin_cases p
  · refine (concatenate_pair_apply_left (s₁ := S3x12x2x1x2) (s₂ := S3x12x2x1x2) 3 _ _ _ (ix5 l q i (0 : Fin 2) j) rfl (ix5 l q i (0 : Fin 1) j) fun a => ?_).trans
      (broadcastInDim_apply _ _ _ _ (ix4 l q i j) fun a => ?_)
    · fin_cases a <;> rfl
    · fin_cases a <;> rfl
  · refine (concatenate_pair_apply_right (s₁ := S3x12x2x1x2) (s₂ := S3x12x2x1x2) 3 _ _ _ (ix5 l q i (1 : Fin 2) j) rfl rfl (ix5 l q i (0 : Fin 1) j) (fun a ha => ?_) (Nat.zero_add 1)).trans
      (broadcastInDim_apply _ _ _ _ (ix4 l q i j) fun a => ?_)
    · fin_cases a <;> first | rfl | exact absurd rfl ha
    · fin_cases a <;> rfl

/-- `pair2` at an index. -/
theorem pair2_apply (a b : FVec F S3x12x2x2x2 .f32) (l : Fin 3) (q : Fin 12) (p i p' j : Fin 2) :
    pair2 a b (ix6 l q p i p' j) = ![a, b] p (ix5 l q i p' j) := by
  fin_cases p
  · refine (concatenate_pair_apply_left (s₁ := S3x12x1x2x2x2) (s₂ := S3x12x1x2x2x2) 2 _ _ _ (ix6 l q (0 : Fin 2) i p' j) rfl (ix6 l q (0 : Fin 1) i p' j) fun a => ?_).trans
      (broadcastInDim_apply _ _ _ _ (ix5 l q i p' j) fun a => ?_)
    · fin_cases a <;> rfl
    · fin_cases a <;> rfl
  · refine (concatenate_pair_apply_right (s₁ := S3x12x1x2x2x2) (s₂ := S3x12x1x2x2x2) 2 _ _ _ (ix6 l q (1 : Fin 2) i p' j) rfl rfl (ix6 l q (0 : Fin 1) i p' j) (fun a ha => ?_) (Nat.zero_add 1)).trans
      (broadcastInDim_apply _ _ _ _ (ix5 l q i p' j) fun a => ?_)
    · fin_cases a <;> first | rfl | exact absurd rfl ha
    · fin_cases a <;> rfl

/-- `mul2` at an index. -/
theorem mul2_apply (a b : FVec Ideal S3x12x2x2 .f32) (l : Fin 3) (q : Fin 12) (i j : Fin 2) :
    mul2 a b (ix4 l q i j) = ∑ k : Fin 2, a (ix4 l q i k) * b (ix4 l q k j) := by
  unfold mul2
  simp only [Host.dotGeneral]
  rw [Ideal.dotGeneral_apply]
  refine (DotDims.sum_contr₁ _ rfl rfl _).trans (Finset.sum_congr rfl fun k _ => ?_)
  refine congrArg₂ (fun x y => a x * b y) (funext fun d => ?_) (funext fun d => ?_)
  · fin_cases d <;> rfl
  · fin_cases d <;> rfl

/-- The gates' real parts. -/
def ur (x1 : FVec F S3x12x3 .f32) : FVec F S3x12x2x2 .f32 := val_main_v85 x1
/-- The gates' imaginary parts. -/
def ui (x1 : FVec F S3x12x3 .f32) : FVec F S3x12x2x2 .f32 := val_main_v88 x1

/-- The matrices acting on the two parts at once. -/
theorem v98_stage (x1 : FVec F S3x12x3 .f32) :
    val_main_v98 x1 = pair2 (pair3 (ur x1) (Host.negf (ui x1))) (pair3 (ui x1) (ur x1)) := rfl

variable (c s : Fin 3 → FVec F S3x12 .f32) (z : FVec F S3x12 .f32)

/-- The real part of the rotations about x, from the cosines and zero. -/
def rxRe : FVec F S3x12x2x2 .f32 := mat2 (vec2 (c 0) z) (vec2 z (c 0))
/-- The imaginary part of the rotations about x. -/
def rxIm : FVec F S3x12x2x2 .f32 := mat2 (vec2 z (Host.negf (s 0))) (vec2 (Host.negf (s 0)) z)
/-- The real part of the rotations about y. -/
def ryRe : FVec F S3x12x2x2 .f32 := mat2 (vec2 (c 1) (Host.negf (s 1))) (vec2 (s 1) (c 1))
/-- The imaginary part of the rotations about y. -/
def ryIm : FVec F S3x12x2x2 .f32 := mat2 (vec2 z z) (vec2 z z)
/-- The real part of the rotations about z. -/
def rzRe : FVec F S3x12x2x2 .f32 := mat2 (vec2 (c 2) z) (vec2 z (c 2))
/-- The imaginary part of the rotations about z. -/
def rzIm : FVec F S3x12x2x2 .f32 := mat2 (vec2 (Host.negf (s 2)) z) (vec2 z (s 2))
/-- The real part of the product of the rotations about z and y. -/
def zyRe : FVec F S3x12x2x2 .f32 := subf (mul2 (rzRe c z) (ryRe c s)) (mul2 (rzIm s z) (ryIm z))
/-- The imaginary part of the product of the rotations about z and y. -/
def zyIm : FVec F S3x12x2x2 .f32 := addf (mul2 (rzRe c z) (ryIm z)) (mul2 (rzIm s z) (ryRe c s))
/-- The real part of the product of the three rotations. -/
def zyxRe : FVec F S3x12x2x2 .f32 := subf (mul2 (zyRe c s z) (rxRe c z)) (mul2 (zyIm c s z) (rxIm s z))
/-- The imaginary part of the product of the three rotations. -/
def zyxIm : FVec F S3x12x2x2 .f32 := addf (mul2 (zyRe c s z) (rxIm s z)) (mul2 (zyIm c s z) (rxRe c z))

/-- The cosines of the half angles about axis `i`. -/
def cosArr (x1 : FVec F S3x12x3 .f32) : Fin 3 → FVec F S3x12 .f32 := ![val_main_v8 x1, val_main_v10 x1, val_main_v12 x1]
/-- The sines of the half angles about axis `i`. -/
def sinArr (x1 : FVec F S3x12x3 .f32) : Fin 3 → FVec F S3x12 .f32 := ![val_main_v14 x1, val_main_v16 x1, val_main_v18 x1]

/-- The real part of the reference's gates is that of the product of the three rotations. -/
theorem ur_stage (x1 : FVec F S3x12x3 .f32) : ur x1 = zyxRe (cosArr x1) (sinArr x1) val_main_v6 := rfl
/-- The imaginary part of the reference's gates is that of the product of the three rotations. -/
theorem ui_stage (x1 : FVec F S3x12x3 .f32) : ui x1 = zyxIm (cosArr x1) (sinArr x1) val_main_v6 := rfl

/-- The product of the three rotations at an index, real part. -/
theorem zyxRe_apply (c s : Fin 3 → FVec Ideal S3x12 .f32) (z : FVec Ideal S3x12 .f32) (hz : ∀ i, z i = 0) (l : Fin 3)
    (q : Fin 12) (i j : Fin 2) : zyxRe c s z (ix4 l q i j) =
      Cert.Sem.rotRe (c 0 (ix2 l q)) (s 0 (ix2 l q)) (c 1 (ix2 l q)) (s 1 (ix2 l q)) (c 2 (ix2 l q)) (s 2 (ix2 l q)) i j := by
  unfold zyxRe zyRe zyIm rxRe rxIm ryRe ryIm rzRe rzIm Host.negf
  fin_cases i <;> fin_cases j <;>
    simp [subf, addf, mul2_apply, mat2_apply, vec2_apply, hz, Fin.sum_univ_two, Cert.Sem.rotRe, sub_eq_add_neg, Ideal.negf_def]

/-- The product of the three rotations at an index, imaginary part. -/
theorem zyxIm_apply (c s : Fin 3 → FVec Ideal S3x12 .f32) (z : FVec Ideal S3x12 .f32) (hz : ∀ i, z i = 0) (l : Fin 3)
    (q : Fin 12) (i j : Fin 2) : zyxIm c s z (ix4 l q i j) =
      Cert.Sem.rotIm (c 0 (ix2 l q)) (s 0 (ix2 l q)) (c 1 (ix2 l q)) (s 1 (ix2 l q)) (c 2 (ix2 l q)) (s 2 (ix2 l q)) i j := by
  unfold zyxIm zyRe zyIm rxRe rxIm ryRe ryIm rzRe rzIm Host.negf
  fin_cases i <;> fin_cases j <;>
    simp [subf, addf, mul2_apply, mat2_apply, vec2_apply, hz, Fin.sum_univ_two, Cert.Sem.rotIm, sub_eq_add_neg, Ideal.negf_def]

/-- One column of a three-column array. -/
theorem column_apply (x : FVec F S3x12x3 .f32) (i : Fin 3) (h : S3x12x3.Slices ![0, 0, i.val] S3x12x1) (l : Fin 3) (q : Fin 12) :
    shapeCast S3x12 (extractStridedSlice S3x12x1 ![0, 0, i.val] x h) shapeCasts_S3x12x1_S3x12 (ix2 l q) = x (ix3 l q i) := by
  refine (shapeCast_apply _ _ (ix2 l q) (ix3 l q (0 : Fin 1)) ?_).trans
    (extractStridedSlice_apply _ _ _ _ (ix3 l q i) fun a => ?_)
  · rw [Shape.rowMajor_val_three, Shape.rowMajor_val_two]
    show (l.val * 12 + q.val) * 1 + 0 = l.val * 12 + q.val
    omega
  · fin_cases a
    · exact (Nat.zero_add _).symm
    · exact (Nat.zero_add _).symm
    · rfl

/-- The word of two is two. -/
theorem ofBits_two : Ideal.ofBits .f32 0x40000000#32 = ((2 : ℝ) : EReal) := by
  simp [Ideal.ofBits, Ideal.ieee]
  rw [← EReal.coe_mul]
  norm_num

/-- The cosine of half an angle at an index. -/
theorem cosArr_apply (x1 : FVec Ideal S3x12x3 .f32) (i : Fin 3) (l : Fin 3) (q : Fin 12) :
    cosArr x1 i (ix2 l q) = Ideal.cos (halfAngle (x1 (ix3 l q i))) := by
  have h : cosArr x1 i (ix2 l q) = val_main_v2 (F := Ideal) x1 (ix3 l q i) := by
    fin_cases i
    · exact column_apply (F := Ideal) (val_main_v2 (F := Ideal) x1) 0 slices_S3x12x3_S3x12x1_0_0_0 l q
    · exact column_apply (F := Ideal) (val_main_v2 (F := Ideal) x1) 1 slices_S3x12x3_S3x12x1_0_0_1 l q
    · exact column_apply (F := Ideal) (val_main_v2 (F := Ideal) x1) 2 slices_S3x12x3_S3x12x1_0_0_2 l q
  rw [h]
  show Ideal.cos (Ideal.div (x1 (ix3 l q i)) (Ideal.ofBits .f32 0x40000000#32)) = _
  rw [ofBits_two, Ideal.div_coe (by norm_num)]
  rfl

/-- The sine of half an angle at an index. -/
theorem sinArr_apply (x1 : FVec Ideal S3x12x3 .f32) (i : Fin 3) (l : Fin 3) (q : Fin 12) :
    sinArr x1 i (ix2 l q) = Ideal.sin (halfAngle (x1 (ix3 l q i))) := by
  have h : sinArr x1 i (ix2 l q) = val_main_v5 (F := Ideal) x1 (ix3 l q i) := by
    fin_cases i
    · exact column_apply (F := Ideal) (val_main_v5 (F := Ideal) x1) 0 slices_S3x12x3_S3x12x1_0_0_0 l q
    · exact column_apply (F := Ideal) (val_main_v5 (F := Ideal) x1) 1 slices_S3x12x3_S3x12x1_0_0_1 l q
    · exact column_apply (F := Ideal) (val_main_v5 (F := Ideal) x1) 2 slices_S3x12x3_S3x12x1_0_0_2 l q
  rw [h]
  show Ideal.sin (Ideal.div (x1 (ix3 l q i)) (Ideal.ofBits .f32 0x40000000#32)) = _
  rw [ofBits_two, Ideal.div_coe (by norm_num)]
  rfl

/-- The gates' array at an index is the gate of the three angles of that layer and wire. -/
theorem v98_apply (x1 : FVec Ideal S3x12x3 .f32) (l : Fin 3) (q : Fin 12) (p a p' b : Fin 2) :
    val_main_v98 (F := Ideal) x1 (ix6 l q p a p' b) = angleGate (fun i => x1 (ix3 l q i)) p a p' b := by
  have hz : ∀ i : S3x12.Idx, val_main_v6 (F := Ideal) i = 0 := fun i => by
    rw [val_main_v6_apply, val_main_cst_1_apply, Ideal.ofBits_def, Ideal.ofBits_zero_f32]
  have hr := fun i j => zyxRe_apply (cosArr x1) (sinArr x1) (val_main_v6 (F := Ideal)) hz l q i j
  have hi := fun i j => zyxIm_apply (cosArr x1) (sinArr x1) (val_main_v6 (F := Ideal)) hz l q i j
  simp only [cosArr_apply, sinArr_apply] at hr hi
  rw [v98_stage, pair2_apply]
  fin_cases p <;> fin_cases p' <;>
    simp [pair3_apply, ur_stage, ui_stage, hr, hi, angleGate, Cert.Sem.gateOf, Host.negf]

end Cert.RCircuit
end
-- ==== Proof.RSem.lean ====
/- The reference's arrays as states: what each of its operations does to the state an array holds. -/
module

public import proofs.«01_k».proof.Proof.RDef
public import proofs.«01_k».proof.Proof.RMat
public import Idealize.ShloMosaic.Lib.ValueIdxRank6
public import Idealize.ShloMosaic.Lib.ValueIdx
public import Idealize.ShloMosaic.Lib.Pipeline.Value
public import Idealize.ShloMosaic.Lib.Pointwise.Contract
public import Idealize.ShloMosaic.PureOps.Ideal.Laws

@[expose] public section

set_option maxRecDepth 16384

noncomputable section

namespace Cert.RCircuit

open Idealize.ShloMosaic hiding ix0 ix1 ix2 ix3 ix4 ix5 ix6
open Idealize.ShloMosaic.TcCoe Idealize.ShloMosaic.ValueIdx Cert.ReferenceIdeal Cert.ReferenceIdeal.Gen
open Cert.ReferenceIdeal.Facts Cert.ReferenceIdeal.Read
open Cert.Sem (Wires State angleGate)

/-- Every axis of the state's array has two places. -/
theorem size13 : ∀ a : Fin 13, S13.size a = 2 := by decide
/-- Every axis of the probabilities' array has two places. -/
theorem size12 : ∀ a : Fin 12, S12w.size a = 2 := by decide

/-- The index of a state's array from the part and the wires' values. -/
def ixS (p : Fin 2) (b : Wires) : S13.Idx := fun a =>
  ⟨((Fin.cons p b : Fin 13 → Fin 2) a).val, lt_of_lt_of_eq ((Fin.cons p b : Fin 13 → Fin 2) a).isLt (size13 a).symm⟩

/-- The wires' values with wire `q`'s put first. -/
def front (q : Fin 12) (b : Wires) : Wires := fun i =>
  if i.val = 0 then b q else if i.val ≤ q.val then b (i - 1) else b i

/-- A product contracted along the state's part and one wire, at an index. -/
theorem dot_apply (D : DotDims S2x2x2x2 S13 S13) (hc : D.lhsContracting = [2, 3]) (g : FVec Ideal S2x2x2x2 .f32)
    (s : FVec Ideal S13 .f32) (j : S13.Idx) : Host.dotGeneral D none g s j =
      ∑ p' : Fin 2, ∑ x : Fin 2, g (D.lhsIdx j (D.contrIdx₂ hc rfl rfl p' x)) * s (D.rhsIdx j (D.contrIdx₂ hc rfl rfl p' x)) := by
  simp only [Host.dotGeneral]
  rw [Ideal.dotGeneral_apply]
  exact D.sum_contr₂ hc rfl rfl _

/-- The same, the two operands' indices named. -/
theorem dot_eq (D : DotDims S2x2x2x2 S13 S13) (hc : D.lhsContracting = [2, 3]) (g : FVec Ideal S2x2x2x2 .f32)
    (s : FVec Ideal S13 .f32) (j : S13.Idx) (p a : Fin 2) (R : Fin 2 → Fin 2 → S13.Idx)
    (hl : ∀ (p' x : Fin 2) (a' : Fin 4), (D.lhsIdx j (D.contrIdx₂ hc rfl rfl p' x) a').val = (ix4 p a p' x a').val)
    (hr : ∀ (p' x : Fin 2) (a' : Fin 13), (D.rhsIdx j (D.contrIdx₂ hc rfl rfl p' x) a').val = (R p' x a').val) :
    Host.dotGeneral D none g s j = ∑ p' : Fin 2, ∑ x : Fin 2, g (ix4 p a p' x) * s (R p' x) := by
  rw [dot_apply D hc]
  refine Finset.sum_congr rfl fun p' _ => Finset.sum_congr rfl fun x _ => ?_
  rw [show D.lhsIdx j (D.contrIdx₂ hc rfl rfl p' x) = ix4 p a p' x from funext fun a' => Fin.ext (hl p' x a'),
    show D.rhsIdx j (D.contrIdx₂ hc rfl rfl p' x) = R p' x from funext fun a' => Fin.ext (hr p' x a')]

/-- A gate's array read at an index. -/
theorem gateArr_apply (q : Fin 12) (g : FVec Ideal S2x2x2x2 .f32) (s : FVec Ideal S13 .f32) (p : Fin 2) (b : Wires) :
    gateArr q g s (ixS p b) = ∑ p' : Fin 2, ∑ x : Fin 2, g (ix4 p (b q) p' x) * s (ixS p' (Function.update b q x)) := by
  obtain ⟨F, hF⟩ : ∃ F : S13.Idx, F = ixS p (front q b) := ⟨_, rfl⟩
  fin_cases q
  · refine dot_eq _ rfl g s _ _ _ _ (fun p' x a => ?_) (fun p' x a => ?_)
    · fin_cases a <;> rfl
    · fin_cases a <;> rfl
  all_goals
    refine (transpose_apply _ _ _ (ixS p b) F fun a => ?_).trans
      (dot_eq _ rfl g s _ _ _ _ (fun p' x a => ?_) (fun p' x a => ?_))
    all_goals
      subst hF
      fin_cases a <;> rfl

/-- The gate of one layer and wire, out of all the gates, at an index. -/
theorem gateAt_apply (l : Fin 3) (q : Fin 12) (G : FVec Ideal S3x12x2x2x2x2 .f32) (p a p' b : Fin 2) :
    gateAt l q G (ix4 p a p' b) = G (ix6 l q p a p' b) := by
  refine (shapeCast_apply _ _ (ix4 p a p' b) (ix6 (0 : Fin 1) (0 : Fin 1) p a p' b) ?_).trans
    (extractStridedSlice_apply _ _ _ _ (ix6 l q p a p' b) fun d => ?_)
  · rw [Shape.rowMajor_val_six, Shape.rowMajor_val_four]
    show (((((0 : ℕ) * 1 + 0) * 2 + p.val) * 2 + a.val) * 2 + p'.val) * 2 + b.val = ((p.val * 2 + a.val) * 2 + p'.val) * 2 + b.val
    omega
  · fin_cases d
    · rfl
    · rfl
    all_goals exact (Nat.zero_add _).symm

/-- A controlled flip's array at an index. -/
theorem cnotArr_apply (c t : Fin 12) (s : FVec Ideal S13 .f32) (p : Fin 2) (b : Wires) :
    cnotArr c.succ t.succ s (ixS p b) = s (ixS p (Cert.Sem.flip c t b)) := by
  have hb : broadcastInDim S13 ![] bcast_S_S2x2x2x2x2x2x2x2x2x2x2x2x2 (constantI S_ 32 1#32) (ixS p b) = 1#32 := rfl
  unfold cnotArr
  rw [select_apply]
  show Scalar.select (IntOp.cmpi .eq (BitVec.ofNat 32 (b c).val) _) (Host.reverse [t.succ] s (ixS p b)) (s (ixS p b)) = _
  rw [hb]
  have hf : Cert.Sem.flip c t b = if b c = 1 then Function.update b t (b t).rev else b := by
    funext q
    unfold Cert.Sem.flip
    by_cases h : q = t
    · subst h
      rw [if_pos rfl]
      split_ifs <;> simp
    · split_ifs <;> simp [h]
  rw [hf]
  rcases (by omega : (b c) = 0 ∨ (b c) = 1) with h | h
  · rw [h, if_neg (by decide)]
    exact select_zero _ _
  · rw [h, if_pos rfl]
    refine (select_one _ _).trans (congrArg s (funext fun a => Fin.ext ?_))
    refine Fin.cases ?_ (fun q => ?_) a
    · rw [if_neg fun hm => Fin.succ_ne_zero t (List.mem_singleton.1 hm).symm]
      rfl
    · by_cases hq : q = t
      · subst hq
        rw [if_pos (by simp)]
        show S13.size q.succ - ((b q).val + 1) = (Function.update b q (b q).rev q).val
        rw [size13, Function.update_self]
        rfl
      · rw [if_neg (by simp [hq])]
        show (b q).val = (Function.update b t (b t).rev q).val
        rw [Function.update_of_ne hq]

/-- The number of an index is zero just where every coordinate is. -/
theorem rank_eq_zero : ∀ {n : ℕ} (d : Fin n → ℕ) (x : (a : Fin n) → Fin (d a)),
    (Shape.rowMajorPi d x).val = 0 ↔ ∀ a, (x a).val = 0
  | 0, d, x => ⟨fun _ a => a.elim0, fun _ => Shape.rowMajorPi_zero d x⟩
  | n + 1, d, x => by
    have hp : 0 < ∏ a : Fin n, d a.succ := Finset.prod_pos fun a _ => lt_of_le_of_lt (Nat.zero_le _) (x a.succ).isLt
    rw [Shape.rowMajorPi_succ_val, Fin.forall_fin_succ, Nat.add_eq_zero_iff, rank_eq_zero, Nat.mul_eq_zero]
    exact and_congr_left fun _ => or_iff_left hp.ne'

/-- The number of entries of a state. -/
theorem numel13 : S13.numel = 8192 := by
  show ∏ a : Fin 13, S13.size a = 8192
  rw [Finset.prod_congr rfl fun a _ => size13 a]
  simp

/-- The first state's list of numbers at an index. -/
theorem startList_apply (n : ℕ) (h : n < 8192) :
    val_main_v103 (F := Ideal) (ix1 ⟨n, h⟩) = if n = 0 then 1 else 0 := by
  show Scalar.select (IntOp.cmpi .eq (BitVec.ofNat 32 n) 0#32) (Ideal.ofBits .f32 0x3F800000#32)
    (Ideal.ofBits .f32 0x00000000#32) = _
  rw [Ideal.ofBits_zero_f32, Ideal.ofBits_one_f32]
  by_cases h0 : n = 0
  · rw [if_pos h0, h0]
    rfl
  · rw [if_neg h0]
    have hne : BitVec.ofNat 32 n ≠ 0#32 := fun e => h0 (by
      have := congrArg BitVec.toNat e
      simp only [BitVec.toNat_ofNat] at this
      omega)
    show Scalar.select (BitVec.ofBool (_ == _)) _ _ = _
    rw [beq_eq_false_iff_ne.2 hne]
    rfl

/-- The number of an index of a state is zero just where the part and the wires' values are. -/
theorem rank13_eq_zero (p : Fin 2) (b : Wires) : (S13.rowMajor (ixS p b)).val = 0 ↔ p = 0 ∧ b = 0 := by
  refine (rank_eq_zero S13.size (ixS p b)).trans ⟨fun h => ⟨Fin.ext (h 0), funext fun q => Fin.ext (h q.succ)⟩, fun h a => ?_⟩
  rcases h with ⟨rfl, rfl⟩
  exact Fin.cases rfl (fun _ => rfl) a

/-- The first state's array at an index. -/
theorem startArr_apply (p : Fin 2) (b : Wires) : startArr (F := Ideal) (ixS p b) = Cert.Sem.start p b := by
  have hlt : (S13.rowMajor (ixS p b)).val < 8192 := lt_of_lt_of_eq (S13.rowMajor (ixS p b)).isLt numel13
  unfold startArr val_main_v104
  generalize hx : val_main_v103 (F := Ideal) = x
  refine (shapeCast_apply x _ (ixS p b) (ix1 ⟨_, hlt⟩) (Shape.rowMajor_val_one _)).trans ?_
  rw [← hx, startList_apply]
  unfold Cert.Sem.start
  simp only [rank13_eq_zero]

/-- An array holds a state. -/
def Holds (s : FVec Ideal S13 .f32) (f : State) : Prop := ∀ p b, s (ixS p b) = f p b

/-- An array that holds a state holds the state after a gate once that gate is applied. -/
theorem Holds.gate {s : FVec Ideal S13 .f32} {f : State} (h : Holds s f) (x1 : FVec Ideal S3x12x3 .f32) (l : Fin 3) (q : Fin 12) :
    Holds (gateArr q (gateAt l q (val_main_v98 (F := Ideal) x1)) s) (Cert.Sem.gate q (angleGate fun i => x1 (ix3 l q i)) f) := by
  intro p b
  rw [gateArr_apply]
  unfold Cert.Sem.gate
  exact Finset.sum_congr rfl fun p' _ => Finset.sum_congr rfl fun x _ => by rw [gateAt_apply, v98_apply, h]

/-- An array that holds a state holds the state after a controlled flip once that flip is applied. -/
theorem Holds.cnot {s : FVec Ideal S13 .f32} {f : State} (h : Holds s f) (c t : Fin 12) :
    Holds (cnotArr c.succ t.succ s) (Cert.Sem.cnot c t f) := fun p b => (cnotArr_apply c t s p b).trans (h p _)

/-- The twelve gates of a layer. -/
theorem Holds.gates {s : FVec Ideal S13 .f32} {f : State} (h : Holds s f) (x1 : FVec Ideal S3x12x3 .f32) (l : Fin 3) :
    Holds (gatesArr l (val_main_v98 (F := Ideal) x1) s) (Cert.Sem.gates (fun q => angleGate fun i => x1 (ix3 l q i)) f) :=
  ((((((((((((h.gate x1 l 0).gate x1 l 1).gate x1 l 2).gate x1 l 3).gate x1 l 4).gate x1 l 5).gate x1 l 6).gate x1 l 7).gate
    x1 l 8).gate x1 l 9).gate x1 l 10).gate x1 l 11)

/-- The ring of controlled flips. -/
theorem Holds.ring {s : FVec Ideal S13 .f32} {f : State} (h : Holds s f) : Holds (ringArr s) (Cert.Sem.ring f) :=
  (((((((((((h.cnot 0 1).cnot 1 2).cnot 2 3).cnot 3 4).cnot 4 5).cnot 5 6).cnot 6 7).cnot 7 8).cnot 8 9).cnot 9 10).cnot
    10 11).cnot 11 0

/-- The reference's last array holds the last state. -/
theorem holds_final (x1 : FVec Ideal S3x12x3 .f32) :
    Holds (val_main_v425 (F := Ideal) x1) (Cert.Sem.final fun l q => angleGate fun i => x1 (ix3 l q i)) := by
  rw [final_stage]
  exact ((((((show Holds startArr Cert.Sem.start from startArr_apply).gates x1 0).ring).gates x1 1).ring).gates x1 2).ring

end Cert.RCircuit
end
-- ==== Proof.RHead.lean ====
/- The reference's probabilities, expectation values and network, and its result at every index. -/
module

public import proofs.«01_k».proof.Proof.RSem

@[expose] public section

set_option maxRecDepth 16384

noncomputable section

namespace Cert.RCircuit

open Idealize.ShloMosaic hiding ix0 ix1 ix2 ix3 ix4 ix5 ix6
open Idealize.ShloMosaic.TcCoe Idealize.ShloMosaic.ValueIdx Cert.ReferenceIdeal Cert.ReferenceIdeal.Gen
open Cert.ReferenceIdeal.Facts Cert.ReferenceIdeal.Read
open Cert.Sem (Wires State angleGate)

/-- The index of the probabilities' array from the wires' values. -/
def ixW (b : Wires) : S12w.Idx := fun a => ⟨(b a).val, lt_of_lt_of_eq (b a).isLt (size12 a).symm⟩

/-- The wires' values from an index of the probabilities' array. -/
def wiresOf (i : S12w.Idx) : Wires := fun a => ⟨(i a).val, lt_of_lt_of_eq (i a).isLt (size12 a)⟩

/-- One part of a state's array at the wires' values. -/
theorem part_apply (off : Fin 13 → ℕ) (h : S13.Slices off S1x2x2x2x2x2x2x2x2x2x2x2x2) (k : Fin 2)
    (h0 : ∀ a : Fin 13, off a = if a = 0 then k.val else 0) (s : FVec Ideal S13 .f32) (b : Wires) :
    shapeCast S12w (extractStridedSlice S1x2x2x2x2x2x2x2x2x2x2x2x2 off s h) shapeCasts_S1x2x2x2x2x2x2x2x2x2x2x2x2_S2x2x2x2x2x2x2x2x2x2x2x2 (ixW b)
      = s (ixS k b) := by
  refine (shapeCast_dropUnit_apply S12w.size _ _ _).trans (extractStridedSlice_apply off s h _ (ixS k b) fun a => ?_)
  rw [h0]
  refine Fin.cases ?_ (fun q => ?_) a
  · rw [if_pos rfl]
    rfl
  · rw [if_neg (Fin.succ_ne_zero q)]
    exact (Nat.zero_add _).symm

/-- The reference's probabilities at the wires' values. -/
theorem v432_apply (x1 : FVec Ideal S3x12x3 .f32) (b : Wires) :
    val_main_v432 (F := Ideal) x1 (ixW b) =
      Cert.Sem.prob (Cert.Sem.final fun l q => angleGate fun i => x1 (ix3 l q i)) b := by
  have h := holds_final x1
  have h0 : val_main_v427 (F := Ideal) x1 (ixW b) = val_main_v425 (F := Ideal) x1 (ixS 0 b) :=
    part_apply _ _ 0 (by intro a; fin_cases a <;> rfl) _ b
  have h1 : val_main_v430 (F := Ideal) x1 (ixW b) = val_main_v425 (F := Ideal) x1 (ixS 1 b) :=
    part_apply _ _ 1 (by intro a; fin_cases a <;> rfl) _ b
  rw [val_main_v432_apply, val_main_v428_apply, val_main_v431_apply, h0, h1, h, h]
  rfl

/-- The sum of the probabilities whose index keeps a coordinate, over the wires' values. -/
theorem drop_sum (q : Fin 12) {axes : List (Fin 12)} (h : S12w.ReducesTo axes S2) (hd : ∀ i, (h.drop i 0).val = (i q).val)
    (p : FVec Ideal S12w .f32) (j : Fin 2) : Host.reduceAdd p (constant (F := Ideal) S_ .f32 0x00000000#32) h h_S_ (ix1 j) =
      ∑ b ∈ Finset.univ.filter (fun b : Wires => b q = j), p (ixW b) := by
  show Ideal.hostReduceAdd h p (Ideal.ofBits .f32 0x00000000#32) (ix1 j) = _
  rw [Ideal.ofBits_zero_f32]
  show 0 + ∑ i ∈ Finset.univ.filter (fun i => h.drop i = ix1 j), p i = _
  rw [zero_add]
  refine Finset.sum_nbij' wiresOf ixW (fun i hi => ?_) (fun b hb => ?_) (fun i hi => rfl) (fun b hb => rfl) (fun i hi => rfl)
  · have e := (Finset.mem_filter.1 hi).2
    refine Finset.mem_filter.2 ⟨Finset.mem_univ _, Fin.ext ?_⟩
    have := congrArg Fin.val (congrFun e 0)
    rw [hd] at this
    exact this
  · refine Finset.mem_filter.2 ⟨Finset.mem_univ _, funext fun a => Fin.ext ?_⟩
    obtain rfl : a = 0 := Subsingleton.elim _ _
    rw [hd]
    exact congrArg Fin.val (Finset.mem_filter.1 hb).2

/-- The probability of a wire having a value. -/
theorem margArr_apply (q : Fin 12) (p : FVec Ideal S12w .f32) (j : Fin 2) :
    margArr q p (ix1 j) = ∑ b ∈ Finset.univ.filter (fun b : Wires => b q = j), p (ixW b) := by
  fin_cases q <;> exact drop_sum _ _ (fun i => Shape.ReducesTo.drop_apply_val_of_eq _ i 0 _) p j

/-- The expectation value of a wire. -/
theorem zArr_apply (q : Fin 12) (p : FVec Ideal S12w .f32) (i : S1.Idx) :
    zArr q p i = Cert.Sem.expval q fun b => p (ixW b) := by
  unfold zArr Cert.Sem.expval
  rw [← margArr_apply, ← margArr_apply]
  generalize margArr q p = y
  refine (broadcastInDim_apply _ _ _ i ix0 fun a => a.elim0).trans (congrArg₂ (fun x y : EReal => x - y) ?_ ?_)
  · exact (shapeCast_apply _ _ ix0 (ix1 (0 : Fin 1)) rfl).trans (extractStridedSlice_apply _ _ _ _ (ix1 (0 : Fin 2)) fun a => by fin_cases a; rfl)
  · exact (shapeCast_apply _ _ ix0 (ix1 (0 : Fin 1)) rfl).trans (extractStridedSlice_apply _ _ _ _ (ix1 (1 : Fin 2)) fun a => by fin_cases a; rfl)

/-- The twelve expectation values. -/
theorem zsArr_apply (p : FVec Ideal S12w .f32) (q : Fin 12) : zsArr p (ix1 q) = Cert.Sem.expval q fun b => p (ixW b) := by
  refine (concatenate_ofFn_unit_apply (t := S12) (s₁ := S1) 0 (fun q => zArr q p) _ rfl rfl (ix1 q) q rfl (ix1 (0 : Fin 1)) fun b hb => ?_).trans
    (zArr_apply q p _)
  exact absurd (Subsingleton.elim _ _) hb

/-- The pixel of row `r` and column `c` of the picture. -/
def pixelAt (r c : Fin 4) : Fin 16 := ⟨r.val * 4 + c.val, by omega⟩

/-- The reference's result at an index. -/
theorem v532_apply (x1 : FVec Ideal S3x12x3 .f32) (x2 : FVec Ideal S32x12 .f32) (x3 : FVec Ideal S32 .f32)
    (x4 : FVec Ideal S16x32 .f32) (x5 : FVec Ideal S16 .f32) (i : S1048576x1x4x4.Idx) :
    val_main_v532 (F := Ideal) x1 x2 x3 x4 x5 i =
      Cert.Sem.picture (fun l q a => x1 (ix3 l q a)) (fun j q => x2 (ix2 j q)) (fun j => x3 (ix1 j))
        (fun k j => x4 (ix2 k j)) (fun k => x5 (ix1 k)) (pixelAt (i 2) (i 3)) := by
  have hz : ∀ q, val_main_v517 (F := Ideal) x1 (ix1 q) =
      Cert.Sem.expval q (Cert.Sem.prob (Cert.Sem.final fun l q => angleGate fun a => x1 (ix3 l q a))) := fun q => by
    rw [zs_stage, zsArr_apply]
    exact congrArg _ (funext fun b => v432_apply x1 b)
  have hh : ∀ j, val_main_v521 (F := Ideal) x1 x2 x3 (ix1 j) =
      max (∑ q : Fin 12, Cert.Sem.expval q (Cert.Sem.prob (Cert.Sem.final fun l q => angleGate fun a => x1 (ix3 l q a))) *
        x2 (ix2 j q) + x3 (ix1 j)) 0 := fun j => by
    rw [val_main_v521_apply, val_main_v520_apply, val_main_v519_apply]
    refine congrArg₂ max (congrArg (· + x3 (ix1 j)) (Finset.sum_congr rfl fun q _ => congrArg₂ (· * ·) ?_ ?_)) Ideal.ofBits_zero_f32
    · rw [← hz]
      exact congrArg _ (funext fun a => by fin_cases a; rfl)
    · exact (val_main_v518_apply (F := Ideal) x2 _).trans (congrArg x2 (funext fun a => by fin_cases a <;> rfl))
  have ho : ∀ k, val_main_v524 (F := Ideal) x1 x2 x3 x4 x5 (ix1 k) =
      ∑ j : Fin 32, max (∑ q : Fin 12, Cert.Sem.expval q (Cert.Sem.prob (Cert.Sem.final fun l q => angleGate fun a => x1 (ix3 l q a))) *
        x2 (ix2 j q) + x3 (ix1 j)) 0 * x4 (ix2 k j) + x5 (ix1 k) := fun k => by
    rw [val_main_v524_apply, val_main_v523_apply]
    refine congrArg (· + x5 (ix1 k)) (Finset.sum_congr rfl fun j _ => congrArg₂ (· * ·) ?_ ?_)
    · rw [← hh]
      exact congrArg _ (funext fun a => by fin_cases a; rfl)
    · exact (val_main_v522_apply (F := Ideal) x4 _).trans (congrArg x4 (funext fun a => by fin_cases a <;> rfl))
  have hp : ∀ k, val_main_v530 (F := Ideal) x1 x2 x3 x4 x5 (ix1 k) =
      Cert.Sem.picture (fun l q a => x1 (ix3 l q a)) (fun j q => x2 (ix2 j q)) (fun j => x3 (ix1 j))
        (fun k j => x4 (ix2 k j)) (fun k => x5 (ix1 k)) k := fun k => by
    unfold Cert.Sem.picture Cert.Sem.net Ideal.logistic
    rw [← ho]
    show Ideal.div (Ideal.ofBits .f32 0x3F800000#32) (Ideal.ofBits .f32 0x3F800000#32 + Ideal.exp (-_)) = _
    rw [Ideal.ofBits_one_f32]
  rw [val_main_v532_apply, val_main_v531_apply, ← hp]
  refine congrArg _ (funext fun a => Fin.ext ?_)
  obtain rfl : a = 0 := Subsingleton.elim _ _
  show ((0 * 1 + 0) * 4 + (i 2).val) * 4 + (i 3).val = (i 2).val * 4 + (i 3).val
  omega

end Cert.RCircuit
end
-- ==== Proof.KEnd.lean ====
/- The kernel's result at the ideal values, from the launch's arguments. -/
module

public import proofs.«01_k».proof.Proof.KHead
public import proofs.«01_k».proof.Proof.RHead
public import Idealize.ShloMosaic.Lib.Pipeline.Value

@[expose] public section

set_option maxRecDepth 16384

noncomputable section

namespace Cert.KCircuit

open Idealize.ShloMosaic hiding ix0 ix1 ix2 ix3 ix4 ix5 ix6
open Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (c : Dev nD)

/-- The angles the grid reads are the argument's, with the axes exchanged. -/
theorem opAngles_apply (l a : Fin 3) (q : Fin 12) :
    opAngles m c (ix3 l a q) = (m ((c.tc : Thread nD τ).loc main_arg1) : FVec Ideal S3x12x3 .f32) (ix3 l q a) := by
  have h : opAngles m c = transpose S3x3x12 [0, 2, 1] (m ((c.tc : Thread nD τ).loc main_arg1) : FVec Ideal S3x12x3 .f32)
      transposes_S3x12x3_S3x3x12_0_2_1 := by
    show after (List.flatten [hostOps0]) _ (Proc.devRef .tc main_v0) = _
    simp only [hostOps0, List.flatten_cons, List.flatten_nil, List.append_nil, List.cons_append, List.nil_append]
    after_results <;> rfl
  rw [h]
  exact transpose_apply _ _ _ _ (ix3 l q a) fun b => by fin_cases b <;> rfl

/-- The first layer's weights the grid reads are the argument's, with the axes exchanged. -/
theorem opW1_apply (q : Fin 12) (j : Fin 32) :
    opW1 m c (ix2 q j) = (m ((c.tc : Thread nD τ).loc main_arg2) : FVec Ideal S32x12 .f32) (ix2 j q) := by
  have h : opW1 m c = transpose S12x32 [1, 0] (m ((c.tc : Thread nD τ).loc main_arg2) : FVec Ideal S32x12 .f32)
      transposes_S32x12_S12x32_1_0 := by
    show after (List.flatten [hostOps0]) _ (Proc.devRef .tc main_v1) = _
    simp only [hostOps0, List.flatten_cons, List.flatten_nil, List.append_nil, List.cons_append, List.nil_append]
    after_results <;> rfl
  rw [h]
  exact transpose_apply _ _ _ _ (ix2 j q) fun b => by fin_cases b <;> rfl

/-- The first layer's offsets the grid reads are the argument's. -/
theorem opB1_apply (j : Fin 32) :
    opB1 m c (ix2 0 j) = (m ((c.tc : Thread nD τ).loc main_arg3) : FVec Ideal S32 .f32) (ix1 j) := by
  have h : opB1 m c = shapeCast S1x32 (m ((c.tc : Thread nD τ).loc main_arg3) : FVec Ideal S32 .f32) shapeCasts_S32_S1x32 := by
    show after (List.flatten [hostOps0]) _ (Proc.devRef .tc main_v2) = _
    simp only [hostOps0, List.flatten_cons, List.flatten_nil, List.append_nil, List.cons_append, List.nil_append]
    after_results <;> rfl
  rw [h]
  refine (shapeCast_addUnit_apply ![32] _ _ _).trans (congrArg _ (funext fun b => ?_))
  fin_cases b; rfl

/-- The second layer's offsets the grid reads are the argument's. -/
theorem opB2_apply (k : Fin 16) :
    opB2 m c (ix2 0 k) = (m ((c.tc : Thread nD τ).loc main_arg5) : FVec Ideal S16 .f32) (ix1 k) := by
  have h : opB2 m c = shapeCast S1x16 (m ((c.tc : Thread nD τ).loc main_arg5) : FVec Ideal S16 .f32) shapeCasts_S16_S1x16 := by
    show after (List.flatten [hostOps0]) _ (Proc.devRef .tc main_v3) = _
    simp only [hostOps0, List.flatten_cons, List.flatten_nil, List.append_nil, List.cons_append, List.nil_append]
    after_results <;> rfl
  rw [h]
  refine (shapeCast_addUnit_apply ![16] _ _ _).trans (congrArg _ (funext fun b => ?_))
  fin_cases b; rfl

/-- Equal angles and weights give the same picture. -/
theorem picture_congr {t t' : Fin 3 → Fin 12 → Fin 3 → EReal} {w1 w1' : Fin 32 → Fin 12 → EReal} {b1 b1' : Fin 32 → EReal}
    {w2 w2' : Fin 16 → Fin 32 → EReal} {b2 b2' : Fin 16 → EReal} (ht : t = t') (hw1 : w1 = w1') (hb1 : b1 = b1')
    (hw2 : w2 = w2') (hb2 : b2 = b2') (k : Fin 16) :
    Cert.Sem.picture t w1 b1 w2 b2 k = Cert.Sem.picture t' w1' b1' w2' b2' k := by
  subst ht hw1 hb1 hw2 hb2
  rfl

/-- The kernel's result at every index is the picture's pixel there. -/
theorem v7_apply (i : S1048576x1x4x4.Idx) :
    Read.val_main_v7 (F := Ideal) (Value.reg_main_v4 m c) i =
      Cert.Sem.picture
        (fun l q a => (m ((c.tc : Thread nD τ).loc main_arg1) : FVec Ideal S3x12x3 .f32) (ix3 l q a))
        (fun j q => (m ((c.tc : Thread nD τ).loc main_arg2) : FVec Ideal S32x12 .f32) (ix2 j q))
        (fun j => (m ((c.tc : Thread nD τ).loc main_arg3) : FVec Ideal S32 .f32) (ix1 j))
        (fun k j => (m ((c.tc : Thread nD τ).loc main_arg4) : FVec Ideal S16x32 .f32) (ix2 k j))
        (fun k => (m ((c.tc : Thread nD τ).loc main_arg5) : FVec Ideal S16 .f32) (ix1 k))
        (Cert.RCircuit.pixelAt (i 2) (i 3)) := by
  obtain ⟨r, l, hr, hc, h⟩ := result_apply m c i
  have hk : (⟨4 * (r.val / 8) + r.val % 4, by omega⟩ : Fin 16) = Cert.RCircuit.pixelAt (i 2) (i 3) := Fin.ext (by
    show 4 * (r.val / 8) + r.val % 4 = (i 2 : ℕ) * 4 + (i 3 : ℕ)
    omega)
  refine h.trans ((tile_apply _ _ _ _ _ r l).trans ?_)
  rw [← hk]
  exact picture_congr (funext fun _ => funext fun _ => funext fun _ => opAngles_apply m c _ _ _)
    (funext fun _ => funext fun _ => opW1_apply m c _ _) (funext fun _ => opB1_apply m c _)
    (congrArg (fun (w : FVec Ideal S16x32 .f32) k j => w (ix2 k j)) (V_main_arg4 m c)) (funext fun _ => opB2_apply m c _) _

/-- The two results are equal where the arguments are. -/
theorem result_eq (x1 : FVec Ideal S3x12x3 .f32) (x2 : FVec Ideal S32x12 .f32) (x3 : FVec Ideal S32 .f32)
    (x4 : FVec Ideal S16x32 .f32) (x5 : FVec Ideal S16 .f32)
    (h1 : x1 = m ((c.tc : Thread nD τ).loc main_arg1)) (h2 : x2 = m ((c.tc : Thread nD τ).loc main_arg2))
    (h3 : x3 = m ((c.tc : Thread nD τ).loc main_arg3)) (h4 : x4 = m ((c.tc : Thread nD τ).loc main_arg4))
    (h5 : x5 = m ((c.tc : Thread nD τ).loc main_arg5)) :
    Cert.ReferenceIdeal.Read.val_main_v532 (F := Ideal) x1 x2 x3 x4 x5 =
      Read.val_main_v7 (F := Ideal) (Value.reg_main_v4 m c) := by
  subst h1 h2 h3 h4 h5
  funext i
  exact (Cert.RCircuit.v532_apply _ _ _ _ _ i).trans (v7_apply m c i).symm

end Cert.KCircuit
end
-- ==== Proof.lean ====
/- The proof of the claims (Defs.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.KernelIdeal.Read
public import proofs.«01_k».proof.Proof.Gen.ReferenceIdeal.Run
public import proofs.«01_k».proof.Proof.Gen.ReferenceIdeal.Read
public import proofs.«01_k».proof.Proof.KEnd
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The frame of the idealized reference: it ends with its arguments unchanged, and it has no semaphore to leave set. -/
theorem frame_ref : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- From memories that agree on the arguments, the kernel and the reference end with equal results at the ideal values. -/
theorem equal_results : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Read.val_main_v7 (F := Ideal) (Cert.KernelIdeal.Value.reg_main_v4 m c),
    Cert.KernelIdeal.Value.run (F := Ideal) m g,
    (θ_run _ _ _).mono (fun _ h c => ⟨(h c).1.trans ((Cert.ReferenceIdeal.Read.val_main_v532_eq (F := Ideal) _).trans
      (Cert.KCircuit.result_eq m c _ _ _ _ _ (hm c).2.1 (hm c).2.2.1 (hm c).2.2.2.1 (hm c).2.2.2.2.1 (hm c).2.2.2.2.2)), (h c).2⟩)
      (Cert.ReferenceIdeal.Value.run (F := Ideal) m' g')⟩

/-- The claims: the three frames, that the idealization is the kernel's own text, and that the results are equal. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_ref, trivial, equal_results⟩

end Cert.Proof

end
